-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5120 : Shape := ⟨1, ![5120]⟩
abbrev S5x8x128 : Shape := ⟨3, ![5, 8, 128]⟩
abbrev S8x5x128 : Shape := ⟨3, ![8, 5, 128]⟩
abbrev S8x640 : Shape := ⟨2, ![8, 640]⟩
abbrev S48x640 : Shape := ⟨2, ![48, 640]⟩
abbrev S5000x5 : Shape := ⟨2, ![5000, 5]⟩
abbrev S5120x5 : Shape := ⟨2, ![5120, 5]⟩
abbrev S25600 : Shape := ⟨1, ![25600]⟩
abbrev S8x128 : Shape := ⟨2, ![8, 128]⟩
abbrev S8x512 : Shape := ⟨2, ![8, 512]⟩
abbrev S1x8x128 : Shape := ⟨3, ![1, 8, 128]⟩
abbrev S1 : Shape := ⟨1, ![1]⟩
abbrev S1x1x1 : Shape := ⟨3, ![1, 1, 1]⟩
abbrev S8x384 : Shape := ⟨2, ![8, 384]⟩
abbrev S8x256 : Shape := ⟨2, ![8, 256]⟩

abbrev nBuf : Space → Nat
  | .hbm => 106
  | .vmem => 3
  | .smem => 1
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S5000x4, .f32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S5000, .f32⟩
  | .hbm, ⟨24, _⟩ => ⟨S5000x1, .f32⟩
  | .hbm, ⟨25, _⟩ => ⟨S5000, .f32⟩
  | .hbm, ⟨26, _⟩ => ⟨S5000x1, .f32⟩
  | .hbm, ⟨27, _⟩ => ⟨S5000, .f32⟩
  | .hbm, ⟨28, _⟩ => ⟨S5000, .f32⟩
  | .hbm, ⟨29, _⟩ => ⟨S5000x1, .f32⟩
  | .hbm, ⟨30, _⟩ => ⟨S5000, .f32⟩
  | .hbm, ⟨31, _⟩ => ⟨S5000x1, .f32⟩
  | .hbm, ⟨32, _⟩ => ⟨S5000, .f32⟩
  | .hbm, ⟨33, _⟩ => ⟨S5000, .f32⟩
  | .hbm, ⟨34, _⟩ => ⟨S5000, .f32⟩
  | .hbm, ⟨35, _⟩ => ⟨S5000x1, .f32⟩
  | .hbm, ⟨36, _⟩ => ⟨S5000, .f32⟩
  | .hbm, ⟨37, _⟩ => ⟨S5000x1, .f32⟩
  | .hbm, ⟨38, _⟩ => ⟨S5000, .f32⟩
  | .hbm, ⟨39, _⟩ => ⟨S5000x1, .f32⟩
  | .hbm, ⟨40, _⟩ => ⟨S5000, .f32⟩
  | .hbm, ⟨41, _⟩ => ⟨S5000x1, .f32⟩
  | .hbm, ⟨42, _⟩ => ⟨S5000, .f32⟩
  | .hbm, ⟨43, _⟩ => ⟨S_, .i32⟩
  | .hbm, ⟨44, _⟩ => ⟨S_, .f32⟩
  | .hbm, ⟨45, _⟩ => ⟨S5120, .f32⟩
  | .hbm, ⟨46, _⟩ => ⟨S5x8x128, .f32⟩
  | .hbm, ⟨47, _⟩ => ⟨S8x5x128, .f32⟩
  | .hbm, ⟨48, _⟩ => ⟨S8x640, .f32⟩
  | .hbm, ⟨49, _⟩ => ⟨S_, .i32⟩
  | .hbm, ⟨50, _⟩ => ⟨S_, .f32⟩
  | .hbm, ⟨51, _⟩ => ⟨S5120, .f32⟩
  | .hbm, ⟨52, _⟩ => ⟨S5x8x128, .f32⟩
  | .hbm, ⟨53, _⟩ => ⟨S8x5x128, .f32⟩
  | .hbm, ⟨54, _⟩ => ⟨S8x640, .f32⟩
  | .hbm, ⟨55, _⟩ => ⟨S_, .i32⟩
  | .hbm, ⟨56, _⟩ => ⟨S_, .f32⟩
  | .hbm, ⟨57, _⟩ => ⟨S5120, .f32⟩
  | .hbm, ⟨58, _⟩ => ⟨S5x8x128, .f32⟩
  | .hbm, ⟨59, _⟩ => ⟨S8x5x128, .f32⟩
  | .hbm, ⟨60, _⟩ => ⟨S8x640, .f32⟩
  | .hbm, ⟨61, _⟩ => ⟨S_, .i32⟩
  | .hbm, ⟨62, _⟩ => ⟨S_, .f32⟩
  | .hbm, ⟨63, _⟩ => ⟨S5120, .f32⟩
  | .hbm, ⟨64, _⟩ => ⟨S5x8x128, .f32⟩
  | .hbm, ⟨65, _⟩ => ⟨S8x5x128, .f32⟩
  | .hbm, ⟨66, _⟩ => ⟨S8x640, .f32⟩
  | .hbm, ⟨67, _⟩ => ⟨S_, .i32⟩
  | .hbm, ⟨68, _⟩ => ⟨S_, .f32⟩
  | .hbm, ⟨69, _⟩ => ⟨S5120, .f32⟩
  | .hbm, ⟨70, _⟩ => ⟨S5x8x128, .f32⟩
  | .hbm, ⟨71, _⟩ => ⟨S8x5x128, .f32⟩
  | .hbm, ⟨72, _⟩ => ⟨S8x640, .f32⟩
  | .hbm, ⟨73, _⟩ => ⟨S_, .i32⟩
  | .hbm, ⟨74, _⟩ => ⟨S_, .f32⟩
  | .hbm, ⟨75, _⟩ => ⟨S5120, .f32⟩
  | .hbm, ⟨76, _⟩ => ⟨S5x8x128, .f32⟩
  | .hbm, ⟨77, _⟩ => ⟨S8x5x128, .f32⟩
  | .hbm, ⟨78, _⟩ => ⟨S8x640, .f32⟩
  | .hbm, ⟨79, _⟩ => ⟨S48x640, .f32⟩
  | .hbm, ⟨80, _⟩ => ⟨S5000x1, .f32⟩
  | .hbm, ⟨81, _⟩ => ⟨S5000x1, .f32⟩
  | .hbm, ⟨82, _⟩ => ⟨S5000x1, .f32⟩
  | .hbm, ⟨83, _⟩ => ⟨S5000x1, .f32⟩
  | .hbm, ⟨84, _⟩ => ⟨S5000x1, .f32⟩
  | .hbm, ⟨85, _⟩ => ⟨S5000x5, .f32⟩
  | .hbm, ⟨86, _⟩ => ⟨S_, .i32⟩
  | .hbm, ⟨87, _⟩ => ⟨S_, .f32⟩
  | .hbm, ⟨88, _⟩ => ⟨S5120x5, .f32⟩
  | .hbm, ⟨89, _⟩ => ⟨S25600, .f32⟩
  | .hbm, ⟨90, _⟩ => ⟨S8x640, .f32⟩
  | .hbm, ⟨91, _⟩ => ⟨S8x5x128, .f32⟩
  | .hbm, ⟨92, _⟩ => ⟨S5x8x128, .f32⟩
  | .hbm, ⟨93, _⟩ => ⟨S5120, .f32⟩
  | .hbm, ⟨94, _⟩ => ⟨S5000, .f32⟩
  | .hbm, ⟨95, _⟩ => ⟨S_, .f32⟩
  | .hbm, ⟨96, _⟩ => ⟨S5000, .f32⟩
  | .hbm, ⟨97, _⟩ => ⟨S_, .i32⟩
  | .hbm, ⟨98, _⟩ => ⟨S5000, .i32⟩
  | .hbm, ⟨99, _⟩ => ⟨S5000, .i1⟩
  | .hbm, ⟨100, _⟩ => ⟨S_, .i32⟩
  | .hbm, ⟨101, _⟩ => ⟨S5000, .i32⟩
  | .hbm, ⟨102, _⟩ => ⟨S5000, .i32⟩
  | .hbm, ⟨103, _⟩ => ⟨S5000, .i32⟩
  | .hbm, ⟨104, _⟩ => ⟨S5000x1, .i32⟩
  | .hbm, ⟨105, _⟩ => ⟨S5000, .f32⟩
  | .local _ .vmem, ⟨0, _⟩ => ⟨S48x640, .f32⟩
  | .local _ .vmem, ⟨1, _⟩ => ⟨S8x640, .f32⟩
  | .local _ .vmem, ⟨2, _⟩ => ⟨S8x640, .f32⟩
  | .local _ .smem, ⟨0, _⟩ => ⟨S25600, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_call1_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_call2_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_call3_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_call4_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_7 : Ref sig .tc := ⟨.hbm, 67, rfl⟩
abbrev main_call5_v0 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_call6_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_call7_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_c_11 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (v174 : BitVec 32) : Fin 1 → Nat :=
  let c0_i32 : BitVec 32 := 0#32
  let v175 : BitVec 32 := Scalar.addi c0_i32 v174
  let c5_i32 : BitVec 32 := 5#32
  let v176 : BitVec 32 := Scalar.muli v175 c5_i32
  let v177 : Index := Scalar.indexCast v176
  ![v177.toNat]

def k0_off2 (v174 : BitVec 32) (c1_i32 : BitVec 32) : Fin 1 → Nat :=
  let c0_i32 : BitVec 32 := 0#32
  let v175 : BitVec 32 := Scalar.addi c0_i32 v174
  let c5_i32 : BitVec 32 := 5#32
  let v176 : BitVec 32 := Scalar.muli v175 c5_i32
  let v179 : BitVec 32 := Scalar.addi v176 c1_i32
  let v180 : Index := Scalar.indexCast v179
  ![v180.toNat]

def k0_chk1 (v174 : BitVec 32) : Prop :=
  (∀ a, (k0_off1 v174) a + S1.size a ≤ S25600.size a) ∧
  (∀ (r : Fin 4), ∀ a, (k0_off2 v174 (BitVec.ofNat 32 (1 + r.val))) a + S1.size a ≤ S25600.size a)
theorem k0_off1_inb : ∀ (v174 : BitVec 32) (k0_hw1 : k0_chk1 v174), ∀ a, (k0_off1 v174) a + S1.size a ≤ S25600.size a := fun v174 k0_hw1 => k0_hw1.1
theorem k0_off2_inb : ∀ (v174 : BitVec 32) (k0_hw1 : k0_chk1 v174), ∀ (r : Fin 4), ∀ a, (k0_off2 v174 (BitVec.ofNat 32 (1 + r.val))) a + S1.size a ≤ S25600.size a := fun v174 k0_hw1 r => k0_hw1.2 r

def k0_off3 (v174 : BitVec 32) : Fin 1 → Nat :=
  let c1024_i32 : BitVec 32 := 1024#32
  let v175 : BitVec 32 := Scalar.addi c1024_i32 v174
  let c5_i32 : BitVec 32 := 5#32
  let v176 : BitVec 32 := Scalar.muli v175 c5_i32
  let v177 : Index := Scalar.indexCast v176
  ![v177.toNat]

def k0_off4 (v174 : BitVec 32) (c1_i32 : BitVec 32) : Fin 1 → Nat :=
  let c1024_i32 : BitVec 32 := 1024#32
  let v175 : BitVec 32 := Scalar.addi c1024_i32 v174
  let c5_i32 : BitVec 32 := 5#32
  let v176 : BitVec 32 := Scalar.muli v175 c5_i32
  let v179 : BitVec 32 := Scalar.addi v176 c1_i32
  let v180 : Index := Scalar.indexCast v179
  ![v180.toNat]

def k0_chk2 (v174 : BitVec 32) : Prop :=
  (∀ a, (k0_off3 v174) a + S1.size a ≤ S25600.size a) ∧
  (∀ (r : Fin 4), ∀ a, (k0_off4 v174 (BitVec.ofNat 32 (1 + r.val))) a + S1.size a ≤ S25600.size a)
theorem k0_off3_inb : ∀ (v174 : BitVec 32) (k0_hw2 : k0_chk2 v174), ∀ a, (k0_off3 v174) a + S1.size a ≤ S25600.size a := fun v174 k0_hw2 => k0_hw2.1
theorem k0_off4_inb : ∀ (v174 : BitVec 32) (k0_hw2 : k0_chk2 v174), ∀ (r : Fin 4), ∀ a, (k0_off4 v174 (BitVec.ofNat 32 (1 + r.val))) a + S1.size a ≤ S25600.size a := fun v174 k0_hw2 r => k0_hw2.2 r

def k0_off5 (v174 : BitVec 32) : Fin 1 → Nat :=
  let c2048_i32 : BitVec 32 := 2048#32
  let v175 : BitVec 32 := Scalar.addi c2048_i32 v174
  let c5_i32 : BitVec 32 := 5#32
  let v176 : BitVec 32 := Scalar.muli v175 c5_i32
  let v177 : Index := Scalar.indexCast v176
  ![v177.toNat]

def k0_off6 (v174 : BitVec 32) (c1_i32 : BitVec 32) : Fin 1 → Nat :=
  let c2048_i32 : BitVec 32 := 2048#32
  let v175 : BitVec 32 := Scalar.addi c2048_i32 v174
  let c5_i32 : BitVec 32 := 5#32
  let v176 : BitVec 32 := Scalar.muli v175 c5_i32
  let v179 : BitVec 32 := Scalar.addi v176 c1_i32
  let v180 : Index := Scalar.indexCast v179
  ![v180.toNat]

def k0_chk3 (v174 : BitVec 32) : Prop :=
  (∀ a, (k0_off5 v174) a + S1.size a ≤ S25600.size a) ∧
  (∀ (r : Fin 4), ∀ a, (k0_off6 v174 (BitVec.ofNat 32 (1 + r.val))) a + S1.size a ≤ S25600.size a)
theorem k0_off5_inb : ∀ (v174 : BitVec 32) (k0_hw3 : k0_chk3 v174), ∀ a, (k0_off5 v174) a + S1.size a ≤ S25600.size a := fun v174 k0_hw3 => k0_hw3.1
theorem k0_off6_inb : ∀ (v174 : BitVec 32) (k0_hw3 : k0_chk3 v174), ∀ (r : Fin 4), ∀ a, (k0_off6 v174 (BitVec.ofNat 32 (1 + r.val))) a + S1.size a ≤ S25600.size a := fun v174 k0_hw3 r => k0_hw3.2 r

def k0_off7 (v174 : BitVec 32) : Fin 1 → Nat :=
  let c3072_i32 : BitVec 32 := 3072#32
  let v175 : BitVec 32 := Scalar.addi c3072_i32 v174
  let c5_i32 : BitVec 32 := 5#32
  let v176 : BitVec 32 := Scalar.muli v175 c5_i32
  let v177 : Index := Scalar.indexCast v176
  ![v177.toNat]

def k0_off8 (v174 : BitVec 32) (c1_i32 : BitVec 32) : Fin 1 → Nat :=
  let c3072_i32 : BitVec 32 := 3072#32
  let v175 : BitVec 32 := Scalar.addi c3072_i32 v174
  let c5_i32 : BitVec 32 := 5#32
  let v176 : BitVec 32 := Scalar.muli v175 c5_i32
  let v179 : BitVec 32 := Scalar.addi v176 c1_i32
  let v180 : Index := Scalar.indexCast v179
  ![v180.toNat]

def k0_chk4 (v174 : BitVec 32) : Prop :=
  (∀ a, (k0_off7 v174) a + S1.size a ≤ S25600.size a) ∧
  (∀ (r : Fin 4), ∀ a, (k0_off8 v174 (BitVec.ofNat 32 (1 + r.val))) a + S1.size a ≤ S25600.size a)
theorem k0_off7_inb : ∀ (v174 : BitVec 32) (k0_hw4 : k0_chk4 v174), ∀ a, (k0_off7 v174) a + S1.size a ≤ S25600.size a := fun v174 k0_hw4 => k0_hw4.1
theorem k0_off8_inb : ∀ (v174 : BitVec 32) (k0_hw4 : k0_chk4 v174), ∀ (r : Fin 4), ∀ a, (k0_off8 v174 (BitVec.ofNat 32 (1 + r.val))) a + S1.size a ≤ S25600.size a := fun v174 k0_hw4 r => k0_hw4.2 r

def k0_off9 (v174 : BitVec 32) : Fin 1 → Nat :=
  let c4096_i32 : BitVec 32 := 4096#32
  let v175 : BitVec 32 := Scalar.addi c4096_i32 v174
  let c5_i32 : BitVec 32 := 5#32
  let v176 : BitVec 32 := Scalar.muli v175 c5_i32
  let v177 : Index := Scalar.indexCast v176
  ![v177.toNat]

def k0_off10 (v174 : BitVec 32) (c1_i32 : BitVec 32) : Fin 1 → Nat :=
  let c4096_i32 : BitVec 32 := 4096#32
  let v175 : BitVec 32 := Scalar.addi c4096_i32 v174
  let c5_i32 : BitVec 32 := 5#32
  let v176 : BitVec 32 := Scalar.muli v175 c5_i32
  let v179 : BitVec 32 := Scalar.addi v176 c1_i32
  let v180 : Index := Scalar.indexCast v179
  ![v180.toNat]

def k0_chk5 (v174 : BitVec 32) : Prop :=
  (∀ a, (k0_off9 v174) a + S1.size a ≤ S25600.size a) ∧
  (∀ (r : Fin 4), ∀ a, (k0_off10 v174 (BitVec.ofNat 32 (1 + r.val))) a + S1.size a ≤ S25600.size a)
theorem k0_off9_inb : ∀ (v174 : BitVec 32) (k0_hw5 : k0_chk5 v174), ∀ a, (k0_off9 v174) a + S1.size a ≤ S25600.size a := fun v174 k0_hw5 => k0_hw5.1
theorem k0_off10_inb : ∀ (v174 : BitVec 32) (k0_hw5 : k0_chk5 v174), ∀ (r : Fin 4), ∀ a, (k0_off10 v174 (BitVec.ofNat 32 (1 + r.val))) a + S1.size a ≤ S25600.size a := fun v174 k0_hw5 r => k0_hw5.2 r

abbrev stage0_0 : Fin 1 → Memref sig .tc .vmem S48x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S25600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩

abbrev nBuf : Space → Nat
  | .hbm => 134
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000x4, .f32⟩
  | 15 => ⟨S_, .i32⟩
  | 16 => ⟨S5000, .i32⟩
  | 17 => ⟨S5000, .i1⟩
  | 18 => ⟨S_, .i32⟩
  | 19 => ⟨S5000, .i32⟩
  | 20 => ⟨S5000, .i32⟩
  | 21 => ⟨S5000, .i32⟩
  | 22 => ⟨S5000x1, .i32⟩
  | 23 => ⟨S5000, .f32⟩
  | 24 => ⟨S5000x2, .f32⟩
  | 25 => ⟨S5000x1x2, .f32⟩
  | 26 => ⟨S5000x2, .f32⟩
  | 27 => ⟨S1x5000x2, .f32⟩
  | 28 => ⟨S5000x5000x2, .f32⟩
  | 29 => ⟨S5000x5000x2, .f32⟩
  | 30 => ⟨S5000x5000x2, .f32⟩
  | 31 => ⟨S5000x2, .f32⟩
  | 32 => ⟨S5000x1x2, .f32⟩
  | 33 => ⟨S5000x2, .f32⟩
  | 34 => ⟨S1x5000x2, .f32⟩
  | 35 => ⟨S5000x5000x2, .f32⟩
  | 36 => ⟨S5000x5000x2, .f32⟩
  | 37 => ⟨S5000x5000x2, .f32⟩
  | 38 => ⟨S5000x5000x2, .f32⟩
  | 39 => ⟨S_, .f32⟩
  | 40 => ⟨S_, .f32⟩
  | 41 => ⟨S5000x5000x2, .f32⟩
  | 42 => ⟨S5000x5000x2, .f32⟩
  | 43 => ⟨S5000x5000x1, .f32⟩
  | 44 => ⟨S5000x5000, .f32⟩
  | 45 => ⟨S5000x5000x1, .f32⟩
  | 46 => ⟨S5000x5000, .f32⟩
  | 47 => ⟨S5000x5000, .f32⟩
  | 48 => ⟨S5000x1, .f32⟩
  | 49 => ⟨S5000, .f32⟩
  | 50 => ⟨S5000x1, .f32⟩
  | 51 => ⟨S5000, .f32⟩
  | 52 => ⟨S5000, .f32⟩
  | 53 => ⟨S5000x1, .f32⟩
  | 54 => ⟨S5000, .f32⟩
  | 55 => ⟨S5000x1, .f32⟩
  | 56 => ⟨S5000, .f32⟩
  | 57 => ⟨S5000, .f32⟩
  | 58 => ⟨S5000, .f32⟩
  | 59 => ⟨S5000x1, .f32⟩
  | 60 => ⟨S1x5000, .f32⟩
  | 61 => ⟨S5000x5000, .f32⟩
  | 62 => ⟨S5000x5000, .f32⟩
  | 63 => ⟨S5000x5000, .f32⟩
  | 64 => ⟨S5000x5000, .f32⟩
  | 65 => ⟨S_, .f32⟩
  | 66 => ⟨S5000x5000, .f32⟩
  | 67 => ⟨S5000x5000, .f32⟩
  | 68 => ⟨S5000x5000, .f32⟩
  | 69 => ⟨S_, .f32⟩
  | 70 => ⟨S5000, .f32⟩
  | 71 => ⟨S5000, .i1⟩
  | 72 => ⟨S5000, .i32⟩
  | 73 => ⟨S5000, .i32⟩
  | 74 => ⟨S_, .i32⟩
  | 75 => ⟨S5000, .i32⟩
  | 76 => ⟨S5000x5000, .f32⟩
  | 77 => ⟨S5000, .i32⟩
  | 78 => ⟨S_, .i32⟩
  | 79 => ⟨S5000, .i1⟩
  | 80 => ⟨S_, .i32⟩
  | 81 => ⟨S_, .i1⟩
  | 82 => ⟨S1, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x5000, .f32⟩
  | 98 => ⟨S5000, .f32⟩
  | 99 => ⟨S_, .f32⟩
  | 100 => ⟨S5000, .f32⟩
  | 101 => ⟨S5000, .i1⟩
  | 102 => ⟨S5000, .i32⟩
  | 103 => ⟨S5000, .i1⟩
  | 104 => ⟨S5000, .i1⟩
  | 105 => ⟨S_, .i32⟩
  | 106 => ⟨S_, .i1⟩
  | 107 => ⟨S_, .i32⟩
  | 108 => ⟨S_, .i32⟩
  | 109 => ⟨S_, .i32⟩
  | 110 => ⟨S1, .i1⟩
  | 111 => ⟨S_, .i1⟩
  | 112 => ⟨S5000, .i1⟩
  | 113 => ⟨S5000, .i1⟩
  | 114 => ⟨S5000, .i1⟩
  | 115 => ⟨S5000, .i1⟩
  | 116 => ⟨S5000, .i1⟩
  | 117 => ⟨S_, .i32⟩
  | 118 => ⟨S_, .i32⟩
  | 119 => ⟨S_, .f32⟩
  | 120 => ⟨S_, .f32⟩
  | 121 => ⟨S5000, .f32⟩
  | 122 => ⟨S5000, .f32⟩
  | 123 => ⟨S_, .f32⟩
  | 124 => ⟨S5000, .f32⟩
  | 125 => ⟨S_, .i32⟩
  | 126 => ⟨S5000, .i32⟩
  | 127 => ⟨S5000, .i1⟩
  | _ => ⟨S5000x4, .f32⟩

abbrev hbmTy0_1 (i : Nat) : BufTy := match i % 128 with
  | 0 => ⟨S_, .i32⟩
  | 1 => ⟨S5000, .i32⟩
  | 2 => ⟨S5000, .i32⟩
  | 3 => ⟨S5000, .i32⟩
  | 4 => ⟨S5000x1, .i32⟩
  | 5 => ⟨S5000, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_5 : Ref sig .tc := ⟨.hbm, 74, rfl⟩
abbrev main_v61_0 : Ref sig .tc := ⟨.hbm, 75, rfl⟩
abbrev main_v61_1 : Ref sig .tc := ⟨.hbm, 76, rfl⟩
abbrev main_v61_2 : Ref sig .tc := ⟨.hbm, 77, rfl⟩
abbrev main_v61_3 : Ref sig .tc := ⟨.hbm, 78, rfl⟩
abbrev main_v61_4 : Ref sig .tc := ⟨.hbm, 79, rfl⟩
abbrev main_while0c_c_14 : Ref sig .tc := ⟨.hbm, 80, rfl⟩
abbrev main_while0c_v71 : Ref sig .tc := ⟨.hbm, 81, rfl⟩
abbrev main_while0b_call2_v0 : Ref sig .tc := ⟨.hbm, 82, rfl⟩
abbrev main_while0b_v71 : Ref sig .tc := ⟨.hbm, 83, rfl⟩
abbrev main_while0b_c_14 : Ref sig .tc := ⟨.hbm, 84, rfl⟩
abbrev main_while0b_v72 : Ref sig .tc := ⟨.hbm, 85, rfl⟩
abbrev main_while0b_c_15 : Ref sig .tc := ⟨.hbm, 86, rfl⟩
abbrev main_while0b_v73 : Ref sig .tc := ⟨.hbm, 87, rfl⟩
abbrev main_while0b_v74 : Ref sig .tc := ⟨.hbm, 88, rfl⟩
abbrev main_while0b_c_16 : Ref sig .tc := ⟨.hbm, 89, rfl⟩
abbrev main_while0b_c_17 : Ref sig .tc := ⟨.hbm, 90, rfl⟩
abbrev main_while0b_v75 : Ref sig .tc := ⟨.hbm, 91, rfl⟩
abbrev main_while0b_c_18 : Ref sig .tc := ⟨.hbm, 92, rfl⟩
abbrev main_while0b_c_19 : Ref sig .tc := ⟨.hbm, 93, rfl⟩
abbrev main_while0b_v76 : Ref sig .tc := ⟨.hbm, 94, rfl⟩
abbrev main_while0b_c_20 : Ref sig .tc := ⟨.hbm, 95, rfl⟩
abbrev main_while0b_v77 : Ref sig .tc := ⟨.hbm, 96, rfl⟩
abbrev main_while0b_v78 : Ref sig .tc := ⟨.hbm, 97, rfl⟩
abbrev main_while0b_v79 : Ref sig .tc := ⟨.hbm, 98, rfl⟩
abbrev main_while0b_cst_21 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_c_22 : Ref sig .tc := ⟨.hbm, 105, rfl⟩
abbrev main_while0b_v85 : Ref sig .tc := ⟨.hbm, 106, rfl⟩
abbrev main_while0b_c_23 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_c_24 : Ref sig .tc := ⟨.hbm, 117, rfl⟩
abbrev main_while0b_v95 : Ref sig .tc := ⟨.hbm, 118, rfl⟩
abbrev main_cst_6 : Ref sig .tc := ⟨.hbm, 119, rfl⟩
abbrev main_call3_v0 : Ref sig .tc := ⟨.hbm, 120, rfl⟩
abbrev main_call3_v1 : Ref sig .tc := ⟨.hbm, 121, rfl⟩
abbrev main_v62 : Ref sig .tc := ⟨.hbm, 122, rfl⟩
abbrev main_cst_7 : Ref sig .tc := ⟨.hbm, 123, rfl⟩
abbrev main_v63 : Ref sig .tc := ⟨.hbm, 124, rfl⟩
abbrev main_c_8 : Ref sig .tc := ⟨.hbm, 125, rfl⟩
abbrev main_v64 : Ref sig .tc := ⟨.hbm, 126, rfl⟩
abbrev main_v65 : Ref sig .tc := ⟨.hbm, 127, rfl⟩
abbrev main_c_9 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩

abbrev nD : Nat := 1
abbrev τ : Topo := Topo.v7x

variable {F : FTy → Type} [FloatOps F]

abbrev main_while0_count : Scf.Loop 32 := ⟨0#32, 5000#32, 1#32⟩
-- ==== Proof.Cur.lean ====
module

public import Idealize.ShloMosaic.PureOps.Ideal
public import Idealize.ShloMosaic.PureOps.Reduce
public import Idealize.ShloMosaic.Lib.NatWords
public import Idealize.ShloMosaic.Lib.NatWordsOrder

@[expose] public section

noncomputable section

namespace Proof.Cur

open Idealize.ShloMosaic

/-- The float that stands for the natural number `n`: the conversion of its 32-bit word. -/
def num (F : FTy → Type) [FloatOps F] (n : ℕ) : F .f32 := FloatOps.sitofp .f32 (BitVec.ofNat 32 n)

/-- What the sweep's cursor asks of the float operations: on the naturals up to 1024 they order, take minima and convert
    back exactly, and the accumulator of the minimum loses to every such number. -/
class CursorOps (F : FTy → Type) [FloatOps F] : Prop where
  /-- The literal 1024.0 stands for 1024. -/
  lit : (FloatOps.ofBits .f32 0x44800000#32 : F .f32) = num F 1024
  /-- "less than" is the order of the naturals. -/
  lt : ∀ a b : ℕ, a ≤ 1024 → b ≤ 1024 → Scalar.cmpf .olt (num F a) (num F b) = BitVec.ofBool (decide (a < b))
  /-- "greater than" is the order of the naturals. -/
  gt : ∀ a b : ℕ, a ≤ 1024 → b ≤ 1024 → FloatOps.cmpf .ogt (num F a) (num F b) = BitVec.ofBool (decide (b < a))
  /-- The minimum is the naturals' minimum. -/
  min : ∀ a b : ℕ, a ≤ 1024 → b ≤ 1024 → FloatOps.minimumf (num F a) (num F b) = num F (Min.min a b)
  /-- The accumulator's plus infinity loses to every natural. -/
  inf : ∀ a : ℕ, a ≤ 1024 → FloatOps.minimumf (FloatOps.ofBits .f32 0x7F800000#32 : F .f32) (num F a) = num F a
  /-- The conversion to a word gives the natural's word. -/
  back : ∀ a : ℕ, a ≤ 1024 → Scalar.fptosi 32 (num F a) = BitVec.ofNat 32 a

/-- With float words, a number up to 1024 is the word for it. -/
theorem num_bits {n : ℕ} (h : n ≤ 1024) : num Bits n = Bits.f32OfNat n := Bits.sitofp32_ofNat (by omega)

/-- The bit-exact operations have the cursor's laws. -/
instance : CursorOps Bits where
  lit := by
    rw [num_bits (le_refl _)]
    show (0x44800000#32 : BitVec 32) = _
    rw [Bits.f32OfNat_eq 1024 (by omega)]
    decide
  lt a b ha hb := by
    rw [num_bits ha, num_bits hb]
    exact Bits.cmpf32_olt_nat (by omega) (by omega)
  gt a b ha hb := by
    rw [num_bits ha, num_bits hb]
    exact Bits.cmpf32_ogt_nat (by omega) (by omega)
  min a b ha hb := by
    rw [num_bits ha, num_bits hb, num_bits (by omega)]
    exact Bits.minf32_nat_le (by omega) (by omega)
  inf a ha := by
    rw [num_bits ha]
    exact Bits.minf32_positiveInfinity_nat (by omega)
  back a ha := by
    rw [num_bits ha]
    exact Bits.fptosi32_nat a (by omega)

/-- Over the extended reals, a number up to 1024 is itself. -/
theorem num_ideal {n : ℕ} (h : n ≤ 1024) : num Ideal n = ((n : ℝ) : EReal) := by
  have e : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [e]; push_cast; rfl

/-- The exact operations on the extended reals have the cursor's laws. -/
instance : CursorOps Ideal where
  lit := by
    rw [num_ideal (le_refl _)]
    simp [Ideal.ofBits_def, Ideal.ofBits, Ideal.ieee, -EReal.coe_mul]; norm_num
  lt a b ha hb := by
    rw [num_ideal ha, num_ideal hb]
    show BitVec.ofBool (decide ((((a : ℝ) : EReal)) < ((b : ℝ) : EReal))) = _
    congr 1
    exact decide_eq_decide.mpr (by rw [EReal.coe_lt_coe_iff]; exact Nat.cast_lt)
  gt a b ha hb := by
    rw [num_ideal ha, num_ideal hb]
    show BitVec.ofBool (decide ((((b : ℝ) : EReal)) < ((a : ℝ) : EReal))) = _
    congr 1
    exact decide_eq_decide.mpr (by rw [EReal.coe_lt_coe_iff]; exact Nat.cast_lt)
  min a b ha hb := by
    rw [num_ideal ha, num_ideal hb, num_ideal (by omega)]
    show Min.min (((a : ℝ) : EReal)) ((b : ℝ) : EReal) = _
    rcases le_total a b with h | h
    · rw [min_eq_left h, min_eq_left (EReal.coe_le_coe_iff.mpr (Nat.cast_le.mpr h))]
    · rw [min_eq_right h, min_eq_right (EReal.coe_le_coe_iff.mpr (Nat.cast_le.mpr h))]
  inf a ha := by
    rw [num_ideal ha]
    show Min.min (Ideal.ofBits .f32 0x7F800000#32) (((a : ℝ) : EReal)) = _
    rw [show Ideal.ofBits .f32 0x7F800000#32 = (⊤ : EReal) by simp [Ideal.ofBits, Ideal.ieee], top_inf_eq]
  back a ha := by
    rw [num_ideal ha]
    show Ideal.fptosi 32 ((a : ℝ) : EReal) = _
    have : Ideal.toIntClamped (-(2 ^ (32 - 1) : Nat)) ((2 ^ (32 - 1) : Nat) - 1) ((a : ℝ) : EReal) = (a : ℤ) := by
      show max _ (min _ (if (0 : ℝ) ≤ a then ⌊(a : ℝ)⌋ else ⌈(a : ℝ)⌉)) = _
      rw [if_pos (Nat.cast_nonneg a), Int.floor_natCast]
      omega
    rw [Ideal.fptosi, this]
    exact BitVec.ofInt_natCast 32 a

variable {F : FTy → Type} [FloatOps F] [CursorOps F]

/-- The running float minimum of a list of naturals up to 1024, begun at such a natural, stands for their running minimum. -/
theorem foldl_num {ι : Type*} (f : ι → ℕ) (hf : ∀ i, f i ≤ 1024) : ∀ (l : List ι) (z : ℕ), z ≤ 1024 →
    l.foldl (fun r i => FloatOps.minimumf r (num F (f i))) (num F z) = num F (l.foldl (fun r i => Min.min r (f i)) z)
  | [], _, _ => rfl
  | a :: l, z, hz => by
    rw [List.foldl_cons, List.foldl_cons, CursorOps.min z (f a) hz (hf a)]
    exact foldl_num f hf l _ (by omega)

/-- The running float minimum of a nonempty list of naturals up to 1024, begun at plus infinity, stands for their minimum. -/
theorem foldl_inf {ι : Type*} (f : ι → ℕ) (hf : ∀ i, f i ≤ 1024) (l : List ι) (hl : l ≠ []) :
    l.foldl (fun r i => FloatOps.minimumf r (num F (f i))) (FloatOps.ofBits .f32 0x7F800000#32 : F .f32)
      = num F (l.foldl (fun r i => Min.min r (f i)) 1024) := by
  cases l with
  | nil => exact absurd rfl hl
  | cons a l =>
    rw [List.foldl_cons, List.foldl_cons, CursorOps.inf (f a) (hf a), min_eq_right (hf a)]
    exact foldl_num f hf l _ (hf a)

/-- The running minimum of a list is at most its start and at most every element's number, and is one of these. -/
theorem foldl_min_spec {ι : Type*} (f : ι → ℕ) : ∀ (l : List ι) (z : ℕ),
    l.foldl (fun r i => Min.min r (f i)) z ≤ z ∧ (∀ i ∈ l, l.foldl (fun r i => Min.min r (f i)) z ≤ f i)
      ∧ (l.foldl (fun r i => Min.min r (f i)) z = z ∨ ∃ i ∈ l, l.foldl (fun r i => Min.min r (f i)) z = f i)
  | [], z => ⟨le_refl _, fun i hi => absurd hi (List.not_mem_nil), Or.inl rfl⟩
  | a :: l, z => by
    obtain ⟨h1, h2, h3⟩ := foldl_min_spec f l (Min.min z (f a))
    rw [List.foldl_cons]
    refine ⟨le_trans h1 (min_le_left _ _), fun i hi => ?_, ?_⟩
    · rcases List.mem_cons.mp hi with rfl | hi
      · exact le_trans h1 (min_le_right _ _)
      · exact h2 i hi
    · rcases h3 with h3 | ⟨i, hi, h3⟩
      · rcases min_choice z (f a) with h | h
        · exact Or.inl (h3.trans h)
        · exact Or.inr ⟨a, List.mem_cons_self, h3.trans h⟩
      · exact Or.inr ⟨i, List.mem_cons_of_mem _ hi, h3⟩

/-- The least of 1024 and the numbers of the marked indices. -/
def least {ι : Type*} (p : ι → Prop) (f : ι → ℕ) : ℕ := sInf {n | n = 1024 ∨ ∃ i, p i ∧ n = f i}

section least
variable {ι : Type*} (p : ι → Prop) (f : ι → ℕ)

/-- The least value is 1024 or is reached. -/
theorem least_mem : least p f = 1024 ∨ ∃ i, p i ∧ least p f = f i :=
  Nat.sInf_mem (s := {n | n = 1024 ∨ ∃ i, p i ∧ n = f i}) ⟨1024, Or.inl rfl⟩

/-- The least value is at most 1024. -/
theorem least_le : least p f ≤ 1024 := Nat.sInf_le (Or.inl rfl)

/-- The least value is at most each value reached. -/
theorem least_le_of {i : ι} (h : p i) : least p f ≤ f i := Nat.sInf_le (Or.inr ⟨i, h, rfl⟩)

/-- A lower bound that is itself 1024 or a marked index's number is the least. -/
theorem eq_least {n : ℕ} (h1 : n = 1024 ∨ ∃ i, p i ∧ n = f i) (h2 : n ≤ 1024) (h3 : ∀ i, p i → n ≤ f i) : n = least p f := by
  apply le_antisymm
  · rcases least_mem p f with h | ⟨i, hi, h⟩
    · rw [h]; exact h2
    · rw [h]; exact h3 i hi
  · rcases h1 with h | ⟨i, hi, h⟩
    · rw [h]; exact least_le p f
    · rw [h]; exact least_le_of p f hi
end least

/-- A float minimum over a whole shape, from plus infinity, of the marked indices' numbers, unmarked indices reading 1024, stands
    for the least of these. -/
theorem fold_least {ι : Type} {s t : Shape} {axes : List (Fin s.rank)} (h : s.Reduces axes t) (ht : ∀ b, t.size b = 1)
    (e : s.Idx ≃ ι) (m : ι → BitVec 1) (f : ι → ℕ) (hf : ∀ i, f i ≤ 1024) (i₀ : ι) (j : t.Idx) :
    reduceFold h FloatOps.minimumf (FloatOps.ofBits .f32 0x7F800000#32 : F .f32)
      (fun y => num F (if m (e y) = 1#1 then f (e y) else 1024)) j = num F (least (fun i => m i = 1#1) f) := by
  rw [reduceFold_eq_foldl_of_size_one _ ht]
  have hall : ∀ y : s.Idx, y ∈ (List.finRange s.numel).map s.rowMajor.symm := fun y =>
    List.mem_map.mpr ⟨s.rowMajor y, List.mem_finRange _, s.rowMajor.symm_apply_apply y⟩
  generalize (List.finRange s.numel).map s.rowMajor.symm = l at hall
  have hle : ∀ y : s.Idx, (if m (e y) = 1#1 then f (e y) else 1024) ≤ 1024 := fun y => by
    split
    · exact hf _
    · exact le_refl _
  have hne : l ≠ [] := fun h0 => by
    have := hall (e.symm i₀)
    rw [h0] at this
    exact List.not_mem_nil this
  rw [foldl_inf _ hle l hne]
  congr 1
  obtain ⟨s1, s2, s3⟩ := foldl_min_spec (fun y : s.Idx => if m (e y) = 1#1 then f (e y) else 1024) l 1024
  refine eq_least _ _ ?_ s1 fun i hi => ?_
  · rcases s3 with s3 | ⟨y, -, hy⟩
    · exact Or.inl s3
    · by_cases hm : m (e y) = 1#1
      · exact Or.inr ⟨_, hm, hy.trans (if_pos hm)⟩
      · exact Or.inl (hy.trans (if_neg hm))
  · have := s2 (e.symm i) (hall _)
    simp only [Equiv.apply_symm_apply, if_pos hi] at this
    exact this

end Proof.Cur
-- ==== Proof.KernelIdealSweep.lean ====
module

public import proofs.«01_k».proof.Proof.Gen.KernelIdeal.Skeleton
public import proofs.«01_k».proof.Proof.Cur

@[expose] public section

set_option maxRecDepth 16384

noncomputable section

namespace Cert.KernelIdeal.Sweep

open Cert.KernelIdeal Cert.KernelIdeal.Gen Proof.Cur
open Idealize.ShloMosaic

variable {F : FTy → Type} [FloatOps F]

/-! ## Indices -/

/-- The element of the packed columns at row `a`, column `b`. -/
def at48 (a b : ℕ) : S48x640.Idx := fun | 0 => ⟨a % 48, Nat.mod_lt _ (by decide)⟩ | 1 => ⟨b % 640, Nat.mod_lt _ (by decide)⟩
/-- The element of a score-shaped buffer at row `a`, column `b`. -/
def at8 (a b : ℕ) : S8x640.Idx := fun | 0 => ⟨a % 8, Nat.mod_lt _ (by decide)⟩ | 1 => ⟨b % 640, Nat.mod_lt _ (by decide)⟩
/-- The element of a chunk at row `a`, lane `b`. -/
def atc (a b : ℕ) : S8x128.Idx := fun | 0 => ⟨a % 8, Nat.mod_lt _ (by decide)⟩ | 1 => ⟨b % 128, Nat.mod_lt _ (by decide)⟩
/-- The `n`-th word of the flat table. -/
def atB (n : ℕ) : S25600.Idx := fun | 0 => ⟨n % 25600, Nat.mod_lt _ (by decide)⟩

/-- A chunk element's number within its chunk. -/
def lane (i : S8x128.Idx) : ℕ := (i 0).val * 128 + (i 1).val

/-- A lane is below 1024. -/
theorem lane_lt (i : S8x128.Idx) : lane i < 1024 := by
  have h0 : (i 0).val < 8 := (i 0).isLt
  have h1 : (i 1).val < 128 := (i 1).isLt
  unfold lane; omega

/-! ## The functions the sweep computes -/

/-- Column `c` (y1, x1, y2, x2, area, score) of the packed boxes, at row `r`, column `q`. -/
def fld (B : S48x640.Idx → Elt F .f32) (c r q : ℕ) : F .f32 := B (at48 (8 * c + r) q)

/-- Column `c` of box `n` in the flat table. -/
def sc (T : S25600.Idx → Elt F .f32) (n c : ℕ) : F .f32 := T (atB (5 * n + c))

/-- Whether the box `b` of a sweep covers the box `l` by more than the threshold: intersection over union, compared. -/
def ovl (b1 b2 b3 b4 ba l1 l2 l3 l4 la : F .f32) : BitVec 1 :=
  let h := FloatOps.maximumf (FloatOps.subf (FloatOps.minimumf l3 b3) (FloatOps.maximumf l1 b1)) (Scalar.ofBits .f32 0x00000000#32)
  let w := FloatOps.maximumf (FloatOps.subf (FloatOps.minimumf l4 b4) (FloatOps.maximumf l2 b2)) (Scalar.ofBits .f32 0x00000000#32)
  let t := FloatOps.mulf h w
  FloatOps.cmpf .ogt (FloatOps.divf t (FloatOps.maximumf (FloatOps.subf (FloatOps.addf ba la) t) (Scalar.ofBits .f32 0x3089705F#32)))
    (Scalar.ofBits .f32 0x3E99999A#32)

/-- Whether box `n` of the flat table covers the packed box at row `r`, column `q`. -/
def hit (B : S48x640.Idx → Elt F .f32) (T : S25600.Idx → Elt F .f32) (n r q : ℕ) : BitVec 1 :=
  ovl (sc T n 0) (sc T n 1) (sc T n 2) (sc T n 3) (sc T n 4) (fld B 0 r q) (fld B 1 r q) (fld B 2 r q) (fld B 3 r q) (fld B 4 r q)

/-- A float is positive. -/
def pos (x : F .f32) : BitVec 1 := FloatOps.cmpf .ogt x (Scalar.ofBits .f32 0x00000000#32)

/-- The float zero. -/
def zro : F .f32 := Scalar.ofBits .f32 0x00000000#32

/-- Clear the marks of a chunk that the box at lane `j` of chunk `k` covers, of the lanes after it. -/
def clear (B : S48x640.Idx → Elt F .f32) (T : S25600.Idx → Elt F .f32) (k j : ℕ) (kc : S8x128.Idx → Elt F .f32) :
    S8x128.Idx → Elt F .f32 := fun i =>
  if hit B T (1024 * k + j) (i 0).val (128 * k + (i 1).val) &&& BitVec.ofBool (decide (j < lane i)) = 1#1 then zro else kc i

/-- Clear the marks of the later chunks that the box at lane `j` of chunk `k` covers. -/
def clearTail (B : S48x640.Idx → Elt F .f32) (T : S25600.Idx → Elt F .f32) (k j : ℕ) (K : S8x640.Idx → Elt F .f32) :
    S8x640.Idx → Elt F .f32 := fun p =>
  if 128 * (k + 1) ≤ (p 1).val then (if hit B T (1024 * k + j) (p 0).val (p 1).val = 1#1 then zro else K p) else K p

/-- The first marked lane. -/
def first (kc : S8x128.Idx → Elt F .f32) : ℕ := least (fun i => pos (kc i) = 1#1) lane

/-- The first marked lane after `j`. -/
def next (kc : S8x128.Idx → Elt F .f32) (j : ℕ) : ℕ :=
  least (fun i => pos (kc i) &&& BitVec.ofBool (decide (j < lane i)) = 1#1) lane

/-- A sweep's state: the cursor, the chunk's marks, and the whole buffer of marks. -/
structure St (F : FTy → Type) where
  /-- The cursor. -/
  j : ℕ
  /-- The chunk's marks. -/
  kc : S8x128.Idx → Elt F .f32
  /-- All marks. -/
  K : S8x640.Idx → Elt F .f32

/-- One trip of the sweep of chunk `k`; past the last lane nothing more happens. -/
def step (B : S48x640.Idx → Elt F .f32) (T : S25600.Idx → Elt F .f32) (k : ℕ) (s : St F) : St F :=
  if s.j < 1024 then ⟨next (clear B T k s.j s.kc) s.j, clear B T k s.j s.kc, clearTail B T k s.j s.K⟩ else s

/-- Chunk `k`'s part of the marks. -/
def part (k : ℕ) (K : S8x640.Idx → Elt F .f32) : S8x128.Idx → Elt F .f32 := fun i => K (at8 (i 0).val (128 * k + (i 1).val))

/-- The marks with chunk `k`'s part replaced. -/
def put (k : ℕ) (kc : S8x128.Idx → Elt F .f32) (K : S8x640.Idx → Elt F .f32) : S8x640.Idx → Elt F .f32 := fun p =>
  if 128 * k ≤ (p 1).val ∧ (p 1).val < 128 * (k + 1) then kc (atc (p 0).val ((p 1).val - 128 * k)) else K p

/-- The sweep of chunk `k`, begun. -/
def init (k : ℕ) (K : S8x640.Idx → Elt F .f32) : St F := ⟨first (part k K), part k K, K⟩

/-- The sweep of chunk `k`: the marks after it. -/
def chunk (B : S48x640.Idx → Elt F .f32) (T : S25600.Idx → Elt F .f32) (k : ℕ) (K : S8x640.Idx → Elt F .f32) :
    S8x640.Idx → Elt F .f32 :=
  put k ((step B T k)^[1024] (init k K)).kc ((step B T k)^[1024] (init k K)).K

/-- The first marks: the boxes whose score passes. -/
def marks0 (B : S48x640.Idx → Elt F .f32) : S8x640.Idx → Elt F .f32 := fun p =>
  if FloatOps.cmpf .ogt (fld B 5 (p 0).val (p 1).val) (Scalar.ofBits .f32 0x3D4CCCCD#32) = 1#1 then Scalar.ofBits .f32 0x3F800000#32 else zro

/-- The marks after the sweeps of the first `n` chunks. -/
def marks (B : S48x640.Idx → Elt F .f32) (T : S25600.Idx → Elt F .f32) : ℕ → S8x640.Idx → Elt F .f32
  | 0 => marks0 B
  | n + 1 => chunk B T n (marks B T n)

/-- What the kernel writes: each score times its final mark. -/
def out (B : S48x640.Idx → Elt F .f32) (T : S25600.Idx → Elt F .f32) : S8x640.Idx → Elt F .f32 := fun p =>
  FloatOps.mulf (marks B T 5 p) (fld B 5 (p 0).val (p 1).val)

/-! ## Loads and stores of the buffers -/

/-- A load of a block of rows of the packed columns. -/
theorem load48 (h w r q : ℕ) (inb) (B : S48x640.Idx → Elt F .f32) :
    (Memref.whole cc0_stg0_0).view.readAt (Elt F) (Rect.unit (s := S48x640) ![r, q] ![h, w] inb).toLoadRect B
      = fun i => B (at48 (r + (i 0).val) (q + (i 1).val)) := by
  funext i
  have h0 : (i 0).val < h := (i 0).isLt
  have h1 : (i 1).val < w := (i 1).isLt
  have b0 : r + h ≤ 48 := inb 0
  have b1 : q + w ≤ 640 := inb 1
  refine congrArg B (funext fun a => ?_)
  fin_cases a
  · exact Fin.ext (show r + 1 * (i 0).val = (r + (i 0).val) % 48 by rw [Nat.mod_eq_of_lt (by omega)]; omega)
  · exact Fin.ext (show q + 1 * (i 1).val = (q + (i 1).val) % 640 by rw [Nat.mod_eq_of_lt (by omega)]; omega)

/-- A load of a block of columns of the marks. -/
theorem load8 (w q : ℕ) (inb) (K : S8x640.Idx → Elt F .f32) :
    (Memref.whole cc0_scratch0).view.readAt (Elt F) (Rect.unit (s := S8x640) ![0, q] ![8, w] inb).toLoadRect K
      = fun i => K (at8 (i 0).val (q + (i 1).val)) := by
  funext i
  have h0 : (i 0).val < 8 := (i 0).isLt
  have h1 : (i 1).val < w := (i 1).isLt
  have b1 : q + w ≤ 640 := inb 1
  refine congrArg K (funext fun a => ?_)
  fin_cases a
  · exact Fin.ext (show 0 + 1 * (i 0).val = (i 0).val % 8 by rw [Nat.mod_eq_of_lt (by omega)]; omega)
  · exact Fin.ext (show q + 1 * (i 1).val = (q + (i 1).val) % 640 by rw [Nat.mod_eq_of_lt (by omega)]; omega)

/-- A load of one word of the flat table. -/
theorem loadB (o : Fin 1 → ℕ) (inb) (n : ℕ) (hn : n < 25600) (ho : o 0 = n) (T : S25600.Idx → Elt F .f32)
    (i : (Rect.unit (s := S25600) o S1.size inb).shape.Idx) :
    ((Memref.whole cc0_stg1_0).access (Rect.unit (s := S25600) o S1.size inb) : View sig _ _ _ _).read (Elt F) T i = T (atB n) := by
  have h0 : (i 0).val < 1 := (i 0).isLt
  refine congrArg T (funext fun a => ?_)
  fin_cases a
  exact Fin.ext (show o 0 + 1 * (i 0).val = n % 25600 by rw [Nat.mod_eq_of_lt hn, ho]; omega)

/-- A store of a block of columns of the marks. -/
theorem store8 (w q : ℕ) (inb) (K : S8x640.Idx → Elt F .f32) (x : (⟨2, ![8, w]⟩ : Shape).Idx → Elt F .f32) :
    ((Memref.whole cc0_scratch0).access (Rect.unit (s := S8x640) ![0, q] ![8, w] inb) : View sig _ _ _ _).write (Elt F) K x Finset.univ
      = fun p => if h : q ≤ (p 1).val ∧ (p 1).val < q + w then
          x (fun | 0 => ⟨(p 0).val, (p 0).isLt⟩ | 1 => ⟨(p 1).val - q, by have := h.1; have := h.2; show _ < w; omega⟩) else K p := by
  funext p
  have b1 : q + w ≤ 640 := inb 1
  have hp0 : (p 0).val < 8 := (p 0).isLt
  by_cases h : q ≤ (p 1).val ∧ (p 1).val < q + w
  · rw [dif_pos h]
    have e := View.write_emb_of_mem
      (v := ((Memref.whole cc0_scratch0).access (Rect.unit (s := S8x640) ![0, q] ![8, w] inb) : View sig _ _ _ _)) (Val := Elt F) K x
      (M := Finset.univ)
      (x := (fun | 0 => ⟨(p 0).val, (p 0).isLt⟩ | 1 => ⟨(p 1).val - q, by have := h.1; have := h.2; show _ < w; omega⟩ :
        (⟨2, ![8, w]⟩ : Shape).Idx)) (Finset.mem_univ _)
    refine Eq.trans (congrArg _ ?_) e
    funext a
    fin_cases a
    · exact Fin.ext (show (p 0).val = 0 + 1 * (p 0).val by omega)
    · exact Fin.ext (show (p 1).val = q + 1 * ((p 1).val - q) by omega)
  · rw [dif_neg h]
    refine View.write_of_not_mem _ _ _ fun hm => ?_
    obtain ⟨y, -, hy⟩ := Finset.mem_map.mp hm
    apply h
    have h1 : (y 1).val < w := (y 1).isLt
    have e : q + 1 * (y 1).val = (p 1).val := congrArg (fun z : S8x640.Idx => (z 1).val) hy
    omega

end Cert.KernelIdeal.Sweep
-- ==== Proof.KernelIdealPay.lean ====
module

public import proofs.«01_k».proof.Proof.KernelIdealSweep

@[expose] public section

set_option maxRecDepth 16384

noncomputable section

namespace Cert.KernelIdeal.Sweep

open Cert.KernelIdeal Cert.KernelIdeal.Gen Proof.Cur
open Idealize.ShloMosaic

variable {F : FTy → Type} [FloatOps F]

/-! ## The loaded blocks, as columns of the packed boxes -/

/-- Column `c` over chunk `k`. -/
def laneF (B : S48x640.Idx → Elt F .f32) (c k : ℕ) : FVec F S8x128 .f32 := fun i => fld B c (i 0).val (128 * k + (i 1).val)

/-- Column `c` over the `w` columns from `q` on. -/
def tailF (B : S48x640.Idx → Elt F .f32) (c w q : ℕ) : FVec F (⟨2, ![8, w]⟩ : Shape) .f32 := fun i => fld B c (i 0).val (q + (i 1).val)

/-- A shape cast to the same shape changes nothing. -/
theorem cast_same {α : Type} {s : Shape} (x : s.Idx → α) (h : s.ShapeCasts s) : shapeCast s x h = x :=
  funext fun j => congrArg x (Shape.reshapeEquiv_self h j)

/-! ## The cursor's values -/

/-- The lane numbers as floats. -/
theorem lanes_apply (i : S8x128.Idx) : k0_pay15 (F := F) i = num F (lane i) := by
  have h0 : (i 0).val < 8 := (i 0).isLt
  have h1 : (i 1).val < 128 := (i 1).isLt
  refine congrArg (FloatOps.sitofp (F := F) .f32) ?_
  show BitVec.ofNat 32 (0 * 8 + (i 0).val) * 128#32 + BitVec.ofNat 32 (0 * 128 + (i 1).val) = BitVec.ofNat 32 (lane i)
  apply BitVec.eq_of_toNat_eq
  unfold lane
  simp only [BitVec.toNat_add, BitVec.toNat_mul, BitVec.toNat_ofNat]
  omega

/-- The minimum over a chunk is a fold over it. -/
theorem pay1_fold (x : FVec F S1x8x128 .f32) : ∃ j, k0_pay1 (F := F) x
    = reduceFold reduces_S1x8x128_S1 FloatOps.minimumf (FloatOps.ofBits .f32 0x7F800000#32 : F .f32) x j := ⟨_, rfl⟩

variable [CursorOps F]

/-- The least of the marked lanes' numbers, as the kernel takes it: by a minimum over the chunk from plus infinity, unmarked
    lanes reading 1024. -/
theorem reduce_least (m : IVec S8x128 1) :
    k0_pay1 (F := F) (shapeCast S1x8x128 (select m (k0_pay15 (F := F)) (broadcast S8x128 (Scalar.ofBits .f32 0x44800000#32)))
      shapeCasts_S8x128_S1x8x128) = num F (least (fun i => m i = 1#1) lane) := by
  have hx : (shapeCast S1x8x128 (select m (k0_pay15 (F := F)) (broadcast S8x128 (Scalar.ofBits .f32 0x44800000#32)))
      shapeCasts_S8x128_S1x8x128 : FVec F S1x8x128 .f32)
      = fun y => num F (if m (Shape.reshapeEquiv shapeCasts_S8x128_S1x8x128 y) = 1#1
          then lane (Shape.reshapeEquiv shapeCasts_S8x128_S1x8x128 y) else 1024) := by
    funext y
    show (if m (Shape.reshapeEquiv shapeCasts_S8x128_S1x8x128 y) = 1#1
      then k0_pay15 (F := F) (Shape.reshapeEquiv shapeCasts_S8x128_S1x8x128 y) else FloatOps.ofBits .f32 0x44800000#32) = _
    rw [lanes_apply, CursorOps.lit]
    split <;> rfl
  rw [hx]
  obtain ⟨j, hj⟩ := pay1_fold (F := F) (fun y => num F (if m (Shape.reshapeEquiv shapeCasts_S8x128_S1x8x128 y) = 1#1
          then lane (Shape.reshapeEquiv shapeCasts_S8x128_S1x8x128 y) else 1024))
  rw [hj]
  exact fold_least reduces_S1x8x128_S1 (fun b => by fin_cases b; rfl) (Shape.reshapeEquiv shapeCasts_S8x128_S1x8x128) m lane
    (fun i => (lane_lt i).le) (atc 0 0) j

/-- The first cursor of a sweep. -/
theorem first_cursor (kc : FVec F S8x128 .f32) : k0_pay26 (F := F) (k0_pay15 (F := F)) kc = num F (first kc) :=
  reduce_least (F := F) (fun i => pos (kc i))

/-- The mask of the lanes after the cursor. -/
theorem after_cursor {j : ℕ} (hj : j ≤ 1024) (i : S8x128.Idx) :
    FloatOps.cmpf .ogt (k0_pay15 (F := F) i) (num F j) = BitVec.ofBool (decide (j < lane i)) := by
  rw [lanes_apply, CursorOps.gt _ _ (lane_lt i).le hj]

/-- The next cursor of a sweep. -/
theorem next_cursor (kc : FVec F S8x128 .f32) {j : ℕ} (hj : j ≤ 1024) :
    k0_pay5 (F := F) (k0_pay15 (F := F)) (num F j) kc = num F (next kc j) := by
  refine (reduce_least (F := F) (fun i => pos (kc i) &&& FloatOps.cmpf .ogt (k0_pay15 (F := F) i) (num F j))).trans ?_
  unfold next
  simp only [after_cursor hj]

/-- The sweep goes on exactly while the cursor is a lane. -/
theorem goes_on {j : ℕ} (hj : j ≤ 1024) : Scalar.cmpf .olt (num F j) (Scalar.ofBits .f32 0x44800000#32) = BitVec.ofBool (decide (j < 1024)) := by
  rw [show (Scalar.ofBits .f32 0x44800000#32 : F .f32) = num F 1024 from CursorOps.lit, CursorOps.lt _ _ hj (le_refl _)]

/-- The next cursor is beyond the present one. -/
theorem next_gt (kc : S8x128.Idx → Elt F .f32) {j : ℕ} (hj : j < 1024) : j < next kc j := by
  rcases least_mem (fun i => pos (kc i) &&& BitVec.ofBool (decide (j < lane i)) = 1#1) lane with h | ⟨i, hi, h⟩
  · exact lt_of_lt_of_eq hj h.symm
  · refine lt_of_lt_of_eq ?_ h.symm
    by_contra hc
    rw [decide_eq_false hc] at hi
    revert hi
    generalize pos (kc i) = b
    revert b
    decide

/-- The next cursor is at most 1024. -/
theorem next_le (kc : S8x128.Idx → Elt F .f32) (j : ℕ) : next kc j ≤ 1024 := least_le _ _
/-- The first cursor is at most 1024. -/
theorem first_le (kc : S8x128.Idx → Elt F .f32) : first kc ≤ 1024 := least_le _ _

/-- The first cursor of sweep 2. -/
theorem first_cursor2 (kc : FVec F S8x128 .f32) : k0_pay38 (F := F) (k0_pay15 (F := F)) kc = num F (first kc) := first_cursor kc
/-- The first cursor of sweep 3. -/
theorem first_cursor3 (kc : FVec F S8x128 .f32) : k0_pay50 (F := F) (k0_pay15 (F := F)) kc = num F (first kc) := first_cursor kc
/-- The first cursor of sweep 4. -/
theorem first_cursor4 (kc : FVec F S8x128 .f32) : k0_pay62 (F := F) (k0_pay15 (F := F)) kc = num F (first kc) := first_cursor kc
/-- The first cursor of sweep 5. -/
theorem first_cursor5 (kc : FVec F S8x128 .f32) : k0_pay1 (F := F) (k0_pay69 (F := F) (k0_pay15 (F := F)) kc) = num F (first kc) := first_cursor kc

/-! ## The marks cleared by a trip -/

/-- The chunk's marks after a trip of sweep 1. -/
theorem clear_pay1 (B : S48x640.Idx → Elt F .f32) (T : S25600.Idx → Elt F .f32) (kc : FVec F S8x128 .f32) {j : ℕ} (hj : j ≤ 1024) :
    k0_pay70 (F := F) (laneF B 2 0) (laneF B 0 0) (laneF B 3 0) (laneF B 1 0) (laneF B 4 0) (k0_pay15 (F := F)) (num F j) kc
      (sc T (1024 * 0 + j) 0) (sc T (1024 * 0 + j) 1) (sc T (1024 * 0 + j) 2) (sc T (1024 * 0 + j) 3) (sc T (1024 * 0 + j) 4)
      = clear B T 0 j kc := by
  funext i
  unfold clear
  rw [← after_cursor (F := F) hj i]
  rfl

/-- The later chunks' marks after a trip of sweep 1. -/
theorem tail_pay1 (B : S48x640.Idx → Elt F .f32) (T : S25600.Idx → Elt F .f32) (K : S8x640.Idx → Elt F .f32) (j : ℕ) :
    ((Memref.whole cc0_scratch0).access (Rect.unit (s := S8x640) ![0, 128] S8x512.size inb_S8x640_S8x512_0_128) : View sig _ _ _ _).write (Elt F) K
      (k0_pay4 (F := F) (tailF B 0 512 128) (tailF B 3 512 128) (tailF B 1 512 128) (tailF B 4 512 128)
        (sc T (1024 * 0 + j) 1) (sc T (1024 * 0 + j) 3) (sc T (1024 * 0 + j) 4)
        (k0_pay71 (F := F) (tailF B 2 512 128) (sc T (1024 * 0 + j) 2)) (k0_pay72 (F := F) (sc T (1024 * 0 + j) 0))
        (fun i => K (at8 (i 0).val (128 + (i 1).val)))) Finset.univ
      = clearTail B T 0 j K := by
  refine (store8 512 128 _ K _).trans ?_
  funext p
  have h1 : (p 1).val < 640 := (p 1).isLt
  have h0 : (p 0).val < 8 := (p 0).isLt
  unfold clearTail
  by_cases h : 128 ≤ (p 1).val
  · rw [dif_pos ⟨h, by omega⟩, if_pos (by omega)]
    unfold k0_pay4
    rw [cast_same]
    have e : 128 + ((p 1).val - 128) = (p 1).val := by omega
    have eK : at8 (p 0).val (128 + ((p 1).val - 128)) = p := by
      rw [e]
      funext a
      fin_cases a
      · exact Fin.ext (Nat.mod_eq_of_lt h0)
      · exact Fin.ext (Nat.mod_eq_of_lt h1)
    show (if ovl _ _ _ _ _ (fld B 0 (p 0).val (128 + ((p 1).val - 128))) (fld B 1 (p 0).val (128 + ((p 1).val - 128)))
      (fld B 2 (p 0).val (128 + ((p 1).val - 128))) (fld B 3 (p 0).val (128 + ((p 1).val - 128)))
      (fld B 4 (p 0).val (128 + ((p 1).val - 128))) = 1#1 then zro else K (at8 (p 0).val (128 + ((p 1).val - 128)))) = _
    rw [eK, e]
    rfl
  · rw [dif_neg (fun hh => h hh.1), if_neg (by omega)]

/-- The chunk's marks after a trip of sweep 2. -/
theorem clear_pay2 (B : S48x640.Idx → Elt F .f32) (T : S25600.Idx → Elt F .f32) (kc : FVec F S8x128 .f32) {j : ℕ} (hj : j ≤ 1024) :
    k0_pay73 (F := F) (laneF B 2 1) (laneF B 0 1) (laneF B 3 1) (laneF B 1 1) (laneF B 4 1) (k0_pay15 (F := F)) (num F j) kc
      (sc T (1024 * 1 + j) 0) (sc T (1024 * 1 + j) 1) (sc T (1024 * 1 + j) 2) (sc T (1024 * 1 + j) 3) (sc T (1024 * 1 + j) 4)
      = clear B T 1 j kc := by
  funext i
  unfold clear
  rw [← after_cursor (F := F) hj i]
  rfl

/-- The later chunks' marks after a trip of sweep 2. -/
theorem tail_pay2 (B : S48x640.Idx → Elt F .f32) (T : S25600.Idx → Elt F .f32) (K : S8x640.Idx → Elt F .f32) (j : ℕ) :
    ((Memref.whole cc0_scratch0).access (Rect.unit (s := S8x640) ![0, 256] S8x384.size inb_S8x640_S8x384_0_256) : View sig _ _ _ _).write (Elt F) K
      (k0_pay6 (F := F) (tailF B 0 384 256) (tailF B 3 384 256) (tailF B 1 384 256) (tailF B 4 384 256)
        (sc T (1024 * 1 + j) 1) (sc T (1024 * 1 + j) 3) (sc T (1024 * 1 + j) 4)
        (k0_pay74 (F := F) (tailF B 2 384 256) (sc T (1024 * 1 + j) 2)) (k0_pay75 (F := F) (sc T (1024 * 1 + j) 0))
        (fun i => K (at8 (i 0).val (256 + (i 1).val)))) Finset.univ
      = clearTail B T 1 j K := by
  refine (store8 384 256 _ K _).trans ?_
  funext p
  have h1 : (p 1).val < 640 := (p 1).isLt
  have h0 : (p 0).val < 8 := (p 0).isLt
  unfold clearTail
  by_cases h : 256 ≤ (p 1).val
  · rw [dif_pos ⟨h, by omega⟩, if_pos (by omega)]
    unfold k0_pay6
    rw [cast_same]
    have e : 256 + ((p 1).val - 256) = (p 1).val := by omega
    have eK : at8 (p 0).val (256 + ((p 1).val - 256)) = p := by
      rw [e]
      funext a
      fin_cases a
      · exact Fin.ext (Nat.mod_eq_of_lt h0)
      · exact Fin.ext (Nat.mod_eq_of_lt h1)
    show (if ovl _ _ _ _ _ (fld B 0 (p 0).val (256 + ((p 1).val - 256))) (fld B 1 (p 0).val (256 + ((p 1).val - 256)))
      (fld B 2 (p 0).val (256 + ((p 1).val - 256))) (fld B 3 (p 0).val (256 + ((p 1).val - 256)))
      (fld B 4 (p 0).val (256 + ((p 1).val - 256))) = 1#1 then zro else K (at8 (p 0).val (256 + ((p 1).val - 256)))) = _
    rw [eK, e]
    rfl
  · rw [dif_neg (fun hh => h hh.1), if_neg (by omega)]

/-- The chunk's marks after a trip of sweep 3. -/
theorem clear_pay3 (B : S48x640.Idx → Elt F .f32) (T : S25600.Idx → Elt F .f32) (kc : FVec F S8x128 .f32) {j : ℕ} (hj : j ≤ 1024) :
    k0_pay76 (F := F) (laneF B 2 2) (laneF B 0 2) (laneF B 3 2) (laneF B 1 2) (laneF B 4 2) (k0_pay15 (F := F)) (num F j) kc
      (sc T (1024 * 2 + j) 0) (sc T (1024 * 2 + j) 1) (sc T (1024 * 2 + j) 2) (sc T (1024 * 2 + j) 3) (sc T (1024 * 2 + j) 4)
      = clear B T 2 j kc := by
  funext i
  unfold clear
  rw [← after_cursor (F := F) hj i]
  rfl

/-- The later chunks' marks after a trip of sweep 3. -/
theorem tail_pay3 (B : S48x640.Idx → Elt F .f32) (T : S25600.Idx → Elt F .f32) (K : S8x640.Idx → Elt F .f32) (j : ℕ) :
    ((Memref.whole cc0_scratch0).access (Rect.unit (s := S8x640) ![0, 384] S8x256.size inb_S8x640_S8x256_0_384) : View sig _ _ _ _).write (Elt F) K
      (k0_pay8 (F := F) (tailF B 0 256 384) (tailF B 3 256 384) (tailF B 1 256 384) (tailF B 4 256 384)
        (sc T (1024 * 2 + j) 1) (sc T (1024 * 2 + j) 3) (sc T (1024 * 2 + j) 4)
        (k0_pay77 (F := F) (tailF B 2 256 384) (sc T (1024 * 2 + j) 2)) (k0_pay78 (F := F) (sc T (1024 * 2 + j) 0))
        (fun i => K (at8 (i 0).val (384 + (i 1).val)))) Finset.univ
      = clearTail B T 2 j K := by
  refine (store8 256 384 _ K _).trans ?_
  funext p
  have h1 : (p 1).val < 640 := (p 1).isLt
  have h0 : (p 0).val < 8 := (p 0).isLt
  unfold clearTail
  by_cases h : 384 ≤ (p 1).val
  · rw [dif_pos ⟨h, by omega⟩, if_pos (by omega)]
    unfold k0_pay8
    rw [cast_same]
    have e : 384 + ((p 1).val - 384) = (p 1).val := by omega
    have eK : at8 (p 0).val (384 + ((p 1).val - 384)) = p := by
      rw [e]
      funext a
      fin_cases a
      · exact Fin.ext (Nat.mod_eq_of_lt h0)
      · exact Fin.ext (Nat.mod_eq_of_lt h1)
    show (if ovl _ _ _ _ _ (fld B 0 (p 0).val (384 + ((p 1).val - 384))) (fld B 1 (p 0).val (384 + ((p 1).val - 384)))
      (fld B 2 (p 0).val (384 + ((p 1).val - 384))) (fld B 3 (p 0).val (384 + ((p 1).val - 384)))
      (fld B 4 (p 0).val (384 + ((p 1).val - 384))) = 1#1 then zro else K (at8 (p 0).val (384 + ((p 1).val - 384)))) = _
    rw [eK, e]
    rfl
  · rw [dif_neg (fun hh => h hh.1), if_neg (by omega)]

/-- The chunk's marks after a trip of sweep 4. -/
theorem clear_pay4 (B : S48x640.Idx → Elt F .f32) (T : S25600.Idx → Elt F .f32) (kc : FVec F S8x128 .f32) {j : ℕ} (hj : j ≤ 1024) :
    k0_pay79 (F := F) (laneF B 2 3) (laneF B 0 3) (laneF B 3 3) (laneF B 1 3) (laneF B 4 3) (k0_pay15 (F := F)) (num F j) kc
      (sc T (1024 * 3 + j) 0) (sc T (1024 * 3 + j) 1) (sc T (1024 * 3 + j) 2) (sc T (1024 * 3 + j) 3) (sc T (1024 * 3 + j) 4)
      = clear B T 3 j kc := by
  funext i
  unfold clear
  rw [← after_cursor (F := F) hj i]
  rfl

/-- The later chunks' marks after a trip of sweep 4. -/
theorem tail_pay4 (B : S48x640.Idx → Elt F .f32) (T : S25600.Idx → Elt F .f32) (K : S8x640.Idx → Elt F .f32) (j : ℕ) :
    ((Memref.whole cc0_scratch0).access (Rect.unit (s := S8x640) ![0, 512] S8x128.size inb_S8x640_S8x128_0_512) : View sig _ _ _ _).write (Elt F) K
      (k0_pay10 (F := F) (tailF B 0 128 512) (tailF B 3 128 512) (tailF B 1 128 512) (tailF B 4 128 512)
        (sc T (1024 * 3 + j) 1) (sc T (1024 * 3 + j) 3) (sc T (1024 * 3 + j) 4)
        (k0_pay80 (F := F) (tailF B 2 128 512) (sc T (1024 * 3 + j) 2)) (k0_pay81 (F := F) (sc T (1024 * 3 + j) 0))
        (fun i => K (at8 (i 0).val (512 + (i 1).val)))) Finset.univ
      = clearTail B T 3 j K := by
  refine (store8 128 512 _ K _).trans ?_
  funext p
  have h1 : (p 1).val < 640 := (p 1).isLt
  have h0 : (p 0).val < 8 := (p 0).isLt
  unfold clearTail
  by_cases h : 512 ≤ (p 1).val
  · rw [dif_pos ⟨h, by omega⟩, if_pos (by omega)]
    unfold k0_pay10
    rw [cast_same]
    have e : 512 + ((p 1).val - 512) = (p 1).val := by omega
    have eK : at8 (p 0).val (512 + ((p 1).val - 512)) = p := by
      rw [e]
      funext a
      fin_cases a
      · exact Fin.ext (Nat.mod_eq_of_lt h0)
      · exact Fin.ext (Nat.mod_eq_of_lt h1)
    show (if ovl _ _ _ _ _ (fld B 0 (p 0).val (512 + ((p 1).val - 512))) (fld B 1 (p 0).val (512 + ((p 1).val - 512)))
      (fld B 2 (p 0).val (512 + ((p 1).val - 512))) (fld B 3 (p 0).val (512 + ((p 1).val - 512)))
      (fld B 4 (p 0).val (512 + ((p 1).val - 512))) = 1#1 then zro else K (at8 (p 0).val (512 + ((p 1).val - 512)))) = _
    rw [eK, e]
    rfl
  · rw [dif_neg (fun hh => h hh.1), if_neg (by omega)]

/-- The chunk's marks after a trip of sweep 5. -/
theorem clear_pay5 (B : S48x640.Idx → Elt F .f32) (T : S25600.Idx → Elt F .f32) (kc : FVec F S8x128 .f32) {j : ℕ} (hj : j ≤ 1024) :
    k0_pay82 (F := F) (laneF B 2 4) (laneF B 0 4) (laneF B 3 4) (laneF B 1 4) (laneF B 4 4) (k0_pay15 (F := F)) (num F j) kc
      (sc T (1024 * 4 + j) 0) (sc T (1024 * 4 + j) 1) (sc T (1024 * 4 + j) 2) (sc T (1024 * 4 + j) 3) (sc T (1024 * 4 + j) 4)
      = clear B T 4 j kc := by
  funext i
  unfold clear
  rw [← after_cursor (F := F) hj i]
  rfl

/-- No chunk comes after the last. -/
theorem clearTail_last (B : S48x640.Idx → Elt F .f32) (T : S25600.Idx → Elt F .f32) (j : ℕ) (K : S8x640.Idx → Elt F .f32) :
    clearTail B T 4 j K = K := by
  funext p
  have h1 : (p 1).val < 640 := (p 1).isLt
  unfold clearTail
  rw [if_neg (by omega)]

/-- The second sweep's next cursor is the first one's. -/
theorem next_cursor2 (kc : FVec F S8x128 .f32) {j : ℕ} (hj : j ≤ 1024) :
    k0_pay7 (F := F) (k0_pay15 (F := F)) (num F j) kc = num F (next kc j) := next_cursor kc hj

/-- The third sweep's next cursor is the first one's. -/
theorem next_cursor3 (kc : FVec F S8x128 .f32) {j : ℕ} (hj : j ≤ 1024) :
    k0_pay9 (F := F) (k0_pay15 (F := F)) (num F j) kc = num F (next kc j) := next_cursor kc hj

/-- The fourth sweep's next cursor is the first one's. -/
theorem next_cursor4 (kc : FVec F S8x128 .f32) {j : ℕ} (hj : j ≤ 1024) :
    k0_pay11 (F := F) (k0_pay15 (F := F)) (num F j) kc = num F (next kc j) := next_cursor kc hj

/-- The last sweep's next cursor is the other sweeps'. -/
theorem next_cursor5 (a b d e f : FVec F S8x128 .f32) (kc : FVec F S8x128 .f32) (x : F .f32) (y1 y2 y3 y4 y5 : Elt F .f32) :
    k0_pay12 (F := F) (k0_pay15 (F := F)) x (k0_pay83 (F := F) a b d e f (k0_pay15 (F := F)) x kc y1 y2 y3 y4 y5)
      = k0_pay5 (F := F) (k0_pay15 (F := F)) x (k0_pay82 (F := F) a b d e f (k0_pay15 (F := F)) x kc y1 y2 y3 y4 y5) := rfl

/-! ## The table's offsets -/

/-- Sweep 1 reads a box's first number at five times its place, -/
theorem offA1 {j : ℕ} (hj : j < 1024) : k0_off1 (BitVec.ofNat 32 j) 0 = 5 * (1024 * 0 + j) + 0 := by
  show ((0#32 + BitVec.ofNat 32 j) * 5#32).toNat = _
  simp only [BitVec.toNat_add, BitVec.toNat_mul, BitVec.toNat_ofNat]
  omega
/-- and the box's number `c` that many places on. -/
theorem offB1 {j : ℕ} (hj : j < 1024) (c : ℕ) (hc : c < 5) : k0_off2 (BitVec.ofNat 32 j) (BitVec.ofNat 32 c) 0 = 5 * (1024 * 0 + j) + c := by
  show ((0#32 + BitVec.ofNat 32 j) * 5#32 + BitVec.ofNat 32 c).toNat = _
  simp only [BitVec.toNat_add, BitVec.toNat_mul, BitVec.toNat_ofNat]
  omega
/-- The trip's reads lie inside the table. -/
theorem chk1 {j : ℕ} (hj : j < 1024) : k0_chk1 (BitVec.ofNat 32 j) := by
  refine ⟨fun a => ?_, fun r a => ?_⟩
  · fin_cases a
    show k0_off1 (BitVec.ofNat 32 j) 0 + 1 ≤ 25600
    rw [offA1 hj]; omega
  · fin_cases a
    show k0_off2 (BitVec.ofNat 32 j) (BitVec.ofNat 32 (1 + r.val)) 0 + 1 ≤ 25600
    rw [offB1 hj _ (by have := r.isLt; omega)]
    have := r.isLt
    omega

/-- Sweep 2 reads a box's first number at five times its place, -/
theorem offA2 {j : ℕ} (hj : j < 1024) : k0_off3 (BitVec.ofNat 32 j) 0 = 5 * (1024 * 1 + j) + 0 := by
  show ((1024#32 + BitVec.ofNat 32 j) * 5#32).toNat = _
  simp only [BitVec.toNat_add, BitVec.toNat_mul, BitVec.toNat_ofNat]
  omega
/-- and the box's number `c` that many places on. -/
theorem offB2 {j : ℕ} (hj : j < 1024) (c : ℕ) (hc : c < 5) : k0_off4 (BitVec.ofNat 32 j) (BitVec.ofNat 32 c) 0 = 5 * (1024 * 1 + j) + c := by
  show ((1024#32 + BitVec.ofNat 32 j) * 5#32 + BitVec.ofNat 32 c).toNat = _
  simp only [BitVec.toNat_add, BitVec.toNat_mul, BitVec.toNat_ofNat]
  omega
/-- The trip's reads lie inside the table. -/
theorem chk2 {j : ℕ} (hj : j < 1024) : k0_chk2 (BitVec.ofNat 32 j) := by
  refine ⟨fun a => ?_, fun r a => ?_⟩
  · fin_cases a
    show k0_off3 (BitVec.ofNat 32 j) 0 + 1 ≤ 25600
    rw [offA2 hj]; omega
  · fin_cases a
    show k0_off4 (BitVec.ofNat 32 j) (BitVec.ofNat 32 (1 + r.val)) 0 + 1 ≤ 25600
    rw [offB2 hj _ (by have := r.isLt; omega)]
    have := r.isLt
    omega

/-- Sweep 3 reads a box's first number at five times its place, -/
theorem offA3 {j : ℕ} (hj : j < 1024) : k0_off5 (BitVec.ofNat 32 j) 0 = 5 * (1024 * 2 + j) + 0 := by
  show ((2048#32 + BitVec.ofNat 32 j) * 5#32).toNat = _
  simp only [BitVec.toNat_add, BitVec.toNat_mul, BitVec.toNat_ofNat]
  omega
/-- and the box's number `c` that many places on. -/
theorem offB3 {j : ℕ} (hj : j < 1024) (c : ℕ) (hc : c < 5) : k0_off6 (BitVec.ofNat 32 j) (BitVec.ofNat 32 c) 0 = 5 * (1024 * 2 + j) + c := by
  show ((2048#32 + BitVec.ofNat 32 j) * 5#32 + BitVec.ofNat 32 c).toNat = _
  simp only [BitVec.toNat_add, BitVec.toNat_mul, BitVec.toNat_ofNat]
  omega
/-- The trip's reads lie inside the table. -/
theorem chk3 {j : ℕ} (hj : j < 1024) : k0_chk3 (BitVec.ofNat 32 j) := by
  refine ⟨fun a => ?_, fun r a => ?_⟩
  · fin_cases a
    show k0_off5 (BitVec.ofNat 32 j) 0 + 1 ≤ 25600
    rw [offA3 hj]; omega
  · fin_cases a
    show k0_off6 (BitVec.ofNat 32 j) (BitVec.ofNat 32 (1 + r.val)) 0 + 1 ≤ 25600
    rw [offB3 hj _ (by have := r.isLt; omega)]
    have := r.isLt
    omega

/-- Sweep 4 reads a box's first number at five times its place, -/
theorem offA4 {j : ℕ} (hj : j < 1024) : k0_off7 (BitVec.ofNat 32 j) 0 = 5 * (1024 * 3 + j) + 0 := by
  show ((3072#32 + BitVec.ofNat 32 j) * 5#32).toNat = _
  simp only [BitVec.toNat_add, BitVec.toNat_mul, BitVec.toNat_ofNat]
  omega
/-- and the box's number `c` that many places on. -/
theorem offB4 {j : ℕ} (hj : j < 1024) (c : ℕ) (hc : c < 5) : k0_off8 (BitVec.ofNat 32 j) (BitVec.ofNat 32 c) 0 = 5 * (1024 * 3 + j) + c := by
  show ((3072#32 + BitVec.ofNat 32 j) * 5#32 + BitVec.ofNat 32 c).toNat = _
  simp only [BitVec.toNat_add, BitVec.toNat_mul, BitVec.toNat_ofNat]
  omega
/-- The trip's reads lie inside the table. -/
theorem chk4 {j : ℕ} (hj : j < 1024) : k0_chk4 (BitVec.ofNat 32 j) := by
  refine ⟨fun a => ?_, fun r a => ?_⟩
  · fin_cases a
    show k0_off7 (BitVec.ofNat 32 j) 0 + 1 ≤ 25600
    rw [offA4 hj]; omega
  · fin_cases a
    show k0_off8 (BitVec.ofNat 32 j) (BitVec.ofNat 32 (1 + r.val)) 0 + 1 ≤ 25600
    rw [offB4 hj _ (by have := r.isLt; omega)]
    have := r.isLt
    omega

/-- Sweep 5 reads a box's first number at five times its place, -/
theorem offA5 {j : ℕ} (hj : j < 1024) : k0_off9 (BitVec.ofNat 32 j) 0 = 5 * (1024 * 4 + j) + 0 := by
  show ((4096#32 + BitVec.ofNat 32 j) * 5#32).toNat = _
  simp only [BitVec.toNat_add, BitVec.toNat_mul, BitVec.toNat_ofNat]
  omega
/-- and the box's number `c` that many places on. -/
theorem offB5 {j : ℕ} (hj : j < 1024) (c : ℕ) (hc : c < 5) : k0_off10 (BitVec.ofNat 32 j) (BitVec.ofNat 32 c) 0 = 5 * (1024 * 4 + j) + c := by
  show ((4096#32 + BitVec.ofNat 32 j) * 5#32 + BitVec.ofNat 32 c).toNat = _
  simp only [BitVec.toNat_add, BitVec.toNat_mul, BitVec.toNat_ofNat]
  omega
/-- The trip's reads lie inside the table. -/
theorem chk5 {j : ℕ} (hj : j < 1024) : k0_chk5 (BitVec.ofNat 32 j) := by
  refine ⟨fun a => ?_, fun r a => ?_⟩
  · fin_cases a
    show k0_off9 (BitVec.ofNat 32 j) 0 + 1 ≤ 25600
    rw [offA5 hj]; omega
  · fin_cases a
    show k0_off10 (BitVec.ofNat 32 j) (BitVec.ofNat 32 (1 + r.val)) 0 + 1 ≤ 25600
    rw [offB5 hj _ (by have := r.isLt; omega)]
    have := r.isLt
    omega

end Cert.KernelIdeal.Sweep
-- ==== Proof.KernelIdealHeld.lean ====
module

public import proofs.«01_k».proof.Proof.KernelIdealPay
public import Idealize.ShloMosaic.Lib.Pipeline.Sound
public import Idealize.ShloMosaic.Lib.Tactic

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The label calls' variants: naturals. -/
abbrev 𝒱₀ : Variants := Variants.nat

variable {F : FTy → Type} [FloatOps F] [CursorOps F]

/-- The resource algebra of the pipeline's cells. -/
abbrev UR (nD : Nat) (τ : Topo) : Type := URounds (GSem nD τ sig) Unit

local notation "𝕄" => MT nD τ sig Unit (Elt F) ℕ (UR nD τ) ℕ

/-- What a sweep holds: the flat table, and the marks. -/
def held (c : Dev nD) (T : Buf (Elt F) (((c : Dev nD) : Thread nD τ).loc cc0_stg1_0))
    (K : Buf (Elt F) (((c : Dev nD) : Thread nD τ).loc cc0_scratch0)) : sProp 𝕄 :=
  iprop((((c : Thread nD τ).loc cc0_stg1_0) ↦{fullShare} T) ∗ (((c : Thread nD τ).loc cc0_scratch0) ↦{fullShare} K))

/-- A sweep of chunk `k` with at most `n` trips to go, from the state `s`. -/
def spec (c : Dev nD) (B : S48x640.Idx → Elt F .f32) (T : Buf (Elt F) (((c : Dev nD) : Thread nD τ).loc cc0_stg1_0))
    (k n : ℕ) (s : St F) : sWPT 𝕄 (F .f32 × FVec F S8x128 .f32) := do
  sWPT.consume (held c T s.K)
  sWPT.produce (held c T ((step B T k)^[n] s).K)
  pure (num F ((step B T k)^[n] s).j, ((step B T k)^[n] s).kc)

/-- The sweep's specification, written out: it takes the held buffers at the first state and gives them back at the last. -/
theorem spec_apply (c : Dev nD) (B : S48x640.Idx → Elt F .f32) (T : Buf (Elt F) (((c : Dev nD) : Thread nD τ).loc cc0_stg1_0))
    (k n : ℕ) (s : St F) (Q : F .f32 × FVec F S8x128 .f32 → sProp 𝕄) :
    spec c B T k n s Q = iprop(held c T s.K ∗ (held c T ((step B T k)^[n] s).K -∗
      Q (num F ((step B T k)^[n] s).j, ((step B T k)^[n] s).kc))) := rfl

/-- A sweep whose cursor is past the lanes does nothing more. -/
theorem iterate_done (B : S48x640.Idx → Elt F .f32) (T : S25600.Idx → Elt F .f32) (k n : ℕ) (s : St F) (h : ¬ s.j < 1024) :
    (step B T k)^[n] s = s := Function.iterate_fixed (by unfold step; rw [if_neg h]) n

end Cert.KernelIdeal.Sweep
-- ==== Proof.KernelIdealBlocks.lean ====
module

public import proofs.«01_k».proof.Proof.KernelIdealHeld

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

/-- A load of a chunk of a column. -/
theorem load_lane (c k r q : ℕ) (hr : 8 * c = r) (hq : 128 * k = q) (inb) (B : S48x640.Idx → Elt F .f32) :
    (Memref.whole cc0_stg0_0).view.readAt (Elt F) (Rect.unit (s := S48x640) ![r, q] S8x128.size inb).toLoadRect B
      = laneF B c k := by
  subst hr hq
  exact load48 8 128 _ _ inb B

/-- A load of the columns from `q` on of a column of the boxes. -/
theorem load_tail (c w r q : ℕ) (hr : 8 * c = r) (inb) (B : S48x640.Idx → Elt F .f32) :
    (Memref.whole cc0_stg0_0).view.readAt (Elt F) (Rect.unit (s := S48x640) ![r, q] ![8, w] inb).toLoadRect B
      = tailF B c w q := by
  subst hr
  exact load48 8 w _ q inb B

/-- A load of a chunk of the marks. -/
theorem load_part (k q : ℕ) (hq : 128 * k = q) (inb) (K : S8x640.Idx → Elt F .f32) :
    (Memref.whole cc0_scratch0).view.readAt (Elt F) (Rect.unit (s := S8x640) ![0, q] S8x128.size inb).toLoadRect K
      = part k K := by
  subst hq
  exact load8 128 _ inb K

/-- A store of a chunk of the marks. -/
theorem store_put (k q : ℕ) (hq : 128 * k = q) (inb) (K : S8x640.Idx → Elt F .f32) (kc : S8x128.Idx → Elt F .f32) :
    ((Memref.whole cc0_scratch0).access (Rect.unit (s := S8x640) ![0, q] S8x128.size inb) : View sig _ _ _ _).write (Elt F) K kc Finset.univ
      = put k kc K := by
  subst hq
  refine (store8 128 _ inb K kc).trans ?_
  funext p
  have h0 : (p 0).val < 8 := (p 0).isLt
  unfold put
  by_cases h : 128 * k ≤ (p 1).val ∧ (p 1).val < 128 * k + 128
  · rw [dif_pos h, if_pos (by omega)]
    refine congrArg kc (funext fun a => ?_)
    fin_cases a
    · exact Fin.ext (Nat.mod_eq_of_lt h0).symm
    · exact Fin.ext (Nat.mod_eq_of_lt (show (p 1).val - 128 * k < 128 by omega)).symm
  · rw [dif_neg h, if_neg (by omega)]

/-- The chunk's last marks, put back, are the next sweep's first marks. -/
theorem put_marks (B : S48x640.Idx → Elt F .f32) (T : S25600.Idx → Elt F .f32) (k : ℕ) (x : F .f32) :
    put k ((x, ((step B T k)^[1024] (init k (marks B T k))).kc) : F .f32 × FVec F S8x128 .f32).2 ((step B T k)^[1024] (init k (marks B T k))).K
      = marks B T (k + 1) := by
  conv_rhs => rw [marks]
  unfold chunk
  dsimp only

/-- A whole store of the marks. -/
theorem store_marks (inb) (K x : S8x640.Idx → Elt F .f32) :
    ((Memref.whole cc0_scratch0).access (Rect.unit (s := S8x640) ![0, 0] S8x640.size inb) : View sig _ _ _ _).write (Elt F) K x Finset.univ
      = x := Memref.write_access_unit_zero_univ (Elt F) cc0_scratch0 (funext fun a => by fin_cases a <;> rfl) _ K x

/-- A whole store of the result. -/
theorem store_out (inb) (K x : S8x640.Idx → Elt F .f32) :
    ((Memref.whole cc0_stg2_0).access (Rect.unit (s := S8x640) ![0, 0] S8x640.size inb) : View sig _ _ _ _).write (Elt F) K x Finset.univ
      = x := Memref.write_access_unit_zero_univ (Elt F) cc0_stg2_0 (funext fun a => by fin_cases a <;> rfl) _ K x

/-- A whole load of the marks. -/
theorem load_marks (inb) (K : S8x640.Idx → Elt F .f32) :
    (Memref.whole cc0_scratch0).view.readAt (Elt F) (Rect.unit (s := S8x640) ![0, 0] S8x640.size inb).toLoadRect K = K :=
  Memref.readAt_unit_zero (Elt F) cc0_scratch0 (funext fun a => by fin_cases a <;> rfl) _ K

/-- The first marks, as the kernel computes them of the scores. -/
theorem marks_pay (B : S48x640.Idx → Elt F .f32) : k0_pay14 (F := F) (tailF B 5 640 0) = marks0 B := by
  funext p
  unfold k0_pay14 k0_pay13
  rw [cast_same, cast_same]
  unfold marks0 tailF
  show (if FloatOps.cmpf .ogt (fld B 5 (p 0).val (0 + (p 1).val)) _ = 1#1 then _ else _) = _
  rw [Nat.zero_add]
  rfl

/-- What the kernel writes, of the scores and the last marks. -/
theorem out_pay (B : S48x640.Idx → Elt F .f32) (T : S25600.Idx → Elt F .f32) :
    k0_pay3 (F := F) (k0_pay13 (tailF B 5 640 0)) (marks B T 5) = out B T := by
  funext p
  unfold k0_pay3 k0_pay13
  rw [cast_same]
  unfold out tailF
  show FloatOps.mulf _ (fld B 5 (p 0).val (0 + (p 1).val)) = _
  rw [Nat.zero_add]

/-! ## Shape casts to the same shape -/

/-- The cast of payload 2 between equal shapes changes nothing. -/
theorem same2 (v : FVec F S8x128 .f32) : k0_pay2 (F := F) v = v := cast_same v _
/-- The cast of payload 16 between equal shapes changes nothing. -/
theorem same16 (v : FVec F S8x128 .f32) : k0_pay16 (F := F) v = v := cast_same v _
/-- The cast of payload 17 between equal shapes changes nothing. -/
theorem same17 (v : FVec F S8x128 .f32) : k0_pay17 (F := F) v = v := cast_same v _
/-- The cast of payload 18 between equal shapes changes nothing. -/
theorem same18 (v : FVec F S8x128 .f32) : k0_pay18 (F := F) v = v := cast_same v _
/-- The cast of payload 19 between equal shapes changes nothing. -/
theorem same19 (v : FVec F S8x128 .f32) : k0_pay19 (F := F) v = v := cast_same v _
/-- The cast of payload 20 between equal shapes changes nothing. -/
theorem same20 (v : FVec F S8x128 .f32) : k0_pay20 (F := F) v = v := cast_same v _
/-- The cast of payload 21 between equal shapes changes nothing. -/
theorem same21 (v : FVec F S8x512 .f32) : k0_pay21 (F := F) v = v := cast_same v _
/-- The cast of payload 22 between equal shapes changes nothing. -/
theorem same22 (v : FVec F S8x512 .f32) : k0_pay22 (F := F) v = v := cast_same v _
/-- The cast of payload 23 between equal shapes changes nothing. -/
theorem same23 (v : FVec F S8x512 .f32) : k0_pay23 (F := F) v = v := cast_same v _
/-- The cast of payload 24 between equal shapes changes nothing. -/
theorem same24 (v : FVec F S8x512 .f32) : k0_pay24 (F := F) v = v := cast_same v _
/-- The cast of payload 25 between equal shapes changes nothing. -/
theorem same25 (v : FVec F S8x512 .f32) : k0_pay25 (F := F) v = v := cast_same v _
/-- The cast of payload 27 between equal shapes changes nothing. -/
theorem same27 (v : FVec F S8x128 .f32) : k0_pay27 (F := F) v = v := cast_same v _
/-- The cast of payload 28 between equal shapes changes nothing. -/
theorem same28 (v : FVec F S8x128 .f32) : k0_pay28 (F := F) v = v := cast_same v _
/-- The cast of payload 29 between equal shapes changes nothing. -/
theorem same29 (v : FVec F S8x128 .f32) : k0_pay29 (F := F) v = v := cast_same v _
/-- The cast of payload 30 between equal shapes changes nothing. -/
theorem same30 (v : FVec F S8x128 .f32) : k0_pay30 (F := F) v = v := cast_same v _
/-- The cast of payload 31 between equal shapes changes nothing. -/
theorem same31 (v : FVec F S8x128 .f32) : k0_pay31 (F := F) v = v := cast_same v _
/-- The cast of payload 32 between equal shapes changes nothing. -/
theorem same32 (v : FVec F S8x128 .f32) : k0_pay32 (F := F) v = v := cast_same v _
/-- The cast of payload 33 between equal shapes changes nothing. -/
theorem same33 (v : FVec F S8x384 .f32) : k0_pay33 (F := F) v = v := cast_same v _
/-- The cast of payload 34 between equal shapes changes nothing. -/
theorem same34 (v : FVec F S8x384 .f32) : k0_pay34 (F := F) v = v := cast_same v _
/-- The cast of payload 35 between equal shapes changes nothing. -/
theorem same35 (v : FVec F S8x384 .f32) : k0_pay35 (F := F) v = v := cast_same v _
/-- The cast of payload 36 between equal shapes changes nothing. -/
theorem same36 (v : FVec F S8x384 .f32) : k0_pay36 (F := F) v = v := cast_same v _
/-- The cast of payload 37 between equal shapes changes nothing. -/
theorem same37 (v : FVec F S8x384 .f32) : k0_pay37 (F := F) v = v := cast_same v _
/-- The cast of payload 39 between equal shapes changes nothing. -/
theorem same39 (v : FVec F S8x128 .f32) : k0_pay39 (F := F) v = v := cast_same v _
/-- The cast of payload 40 between equal shapes changes nothing. -/
theorem same40 (v : FVec F S8x128 .f32) : k0_pay40 (F := F) v = v := cast_same v _
/-- The cast of payload 41 between equal shapes changes nothing. -/
theorem same41 (v : FVec F S8x128 .f32) : k0_pay41 (F := F) v = v := cast_same v _
/-- The cast of payload 42 between equal shapes changes nothing. -/
theorem same42 (v : FVec F S8x128 .f32) : k0_pay42 (F := F) v = v := cast_same v _
/-- The cast of payload 43 between equal shapes changes nothing. -/
theorem same43 (v : FVec F S8x128 .f32) : k0_pay43 (F := F) v = v := cast_same v _
/-- The cast of payload 44 between equal shapes changes nothing. -/
theorem same44 (v : FVec F S8x128 .f32) : k0_pay44 (F := F) v = v := cast_same v _
/-- The cast of payload 45 between equal shapes changes nothing. -/
theorem same45 (v : FVec F S8x256 .f32) : k0_pay45 (F := F) v = v := cast_same v _
/-- The cast of payload 46 between equal shapes changes nothing. -/
theorem same46 (v : FVec F S8x256 .f32) : k0_pay46 (F := F) v = v := cast_same v _
/-- The cast of payload 47 between equal shapes changes nothing. -/
theorem same47 (v : FVec F S8x256 .f32) : k0_pay47 (F := F) v = v := cast_same v _
/-- The cast of payload 48 between equal shapes changes nothing. -/
theorem same48 (v : FVec F S8x256 .f32) : k0_pay48 (F := F) v = v := cast_same v _
/-- The cast of payload 49 between equal shapes changes nothing. -/
theorem same49 (v : FVec F S8x256 .f32) : k0_pay49 (F := F) v = v := cast_same v _
/-- The cast of payload 51 between equal shapes changes nothing. -/
theorem same51 (v : FVec F S8x128 .f32) : k0_pay51 (F := F) v = v := cast_same v _
/-- The cast of payload 52 between equal shapes changes nothing. -/
theorem same52 (v : FVec F S8x128 .f32) : k0_pay52 (F := F) v = v := cast_same v _
/-- The cast of payload 53 between equal shapes changes nothing. -/
theorem same53 (v : FVec F S8x128 .f32) : k0_pay53 (F := F) v = v := cast_same v _
/-- The cast of payload 54 between equal shapes changes nothing. -/
theorem same54 (v : FVec F S8x128 .f32) : k0_pay54 (F := F) v = v := cast_same v _
/-- The cast of payload 55 between equal shapes changes nothing. -/
theorem same55 (v : FVec F S8x128 .f32) : k0_pay55 (F := F) v = v := cast_same v _
/-- The cast of payload 56 between equal shapes changes nothing. -/
theorem same56 (v : FVec F S8x128 .f32) : k0_pay56 (F := F) v = v := cast_same v _
/-- The cast of payload 57 between equal shapes changes nothing. -/
theorem same57 (v : FVec F S8x128 .f32) : k0_pay57 (F := F) v = v := cast_same v _
/-- The cast of payload 58 between equal shapes changes nothing. -/
theorem same58 (v : FVec F S8x128 .f32) : k0_pay58 (F := F) v = v := cast_same v _
/-- The cast of payload 59 between equal shapes changes nothing. -/
theorem same59 (v : FVec F S8x128 .f32) : k0_pay59 (F := F) v = v := cast_same v _
/-- The cast of payload 60 between equal shapes changes nothing. -/
theorem same60 (v : FVec F S8x128 .f32) : k0_pay60 (F := F) v = v := cast_same v _
/-- The cast of payload 61 between equal shapes changes nothing. -/
theorem same61 (v : FVec F S8x128 .f32) : k0_pay61 (F := F) v = v := cast_same v _
/-- The cast of payload 63 between equal shapes changes nothing. -/
theorem same63 (v : FVec F S8x128 .f32) : k0_pay63 (F := F) v = v := cast_same v _
/-- The cast of payload 64 between equal shapes changes nothing. -/
theorem same64 (v : FVec F S8x128 .f32) : k0_pay64 (F := F) v = v := cast_same v _
/-- The cast of payload 65 between equal shapes changes nothing. -/
theorem same65 (v : FVec F S8x128 .f32) : k0_pay65 (F := F) v = v := cast_same v _
/-- The cast of payload 66 between equal shapes changes nothing. -/
theorem same66 (v : FVec F S8x128 .f32) : k0_pay66 (F := F) v = v := cast_same v _
/-- The cast of payload 67 between equal shapes changes nothing. -/
theorem same67 (v : FVec F S8x128 .f32) : k0_pay67 (F := F) v = v := cast_same v _
/-- The cast of payload 68 between equal shapes changes nothing. -/
theorem same68 (v : FVec F S8x128 .f32) : k0_pay68 (F := F) v = v := cast_same v _

end Cert.KernelIdeal.Sweep
-- ==== Proof.KernelIdealLoop1.lean ====
module

public import proofs.«01_k».proof.Proof.KernelIdealHeld

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

/-- Sweep 1's label meets the sweep's specification. -/
theorem loop1 (c : Dev nD) (B : S48x640.Idx → Elt F .f32) (T : Buf (Elt F) (((c : Dev nD) : Thread nD τ).loc cc0_stg1_0)) (E : Set ℕ) :
    ∀ n (s : St F), s.j ≤ 1024 → 1024 - s.j ≤ n → ∀ Q, spec c B T 0 n s Q
      ⊢ wp frame (wpE (defs₀ (F := F)) 𝒱₀ (c : Thread nD τ) (some n)) E
          (defs₀ (F := F) .tc 1 ⟨Memref.whole cc0_stg1_0, Memref.isWhole_whole _, laneF B 2 0, laneF B 0 0, laneF B 3 0, laneF B 1 0, laneF B 4 0,
            k0_pay15 (F := F), tailF B 2 512 128, tailF B 0 512 128, tailF B 3 512 128, tailF B 1 512 128, tailF B 4 512 128, Memref.whole cc0_scratch0, Memref.isWhole_whole _, num F s.j, s.kc⟩) Q := by
  intro n
  induction n with
  | zero =>
    intro s hs hn Q
    rw [spec_apply, iterate_done B T 0 0 s (by omega)]
    show _ ⊢ wp frame (wpE (defs₀ (F := F)) 𝒱₀ (c : Thread nD τ) (some 0)) E
      (cc0_while1 (Memref.whole cc0_stg1_0) (Memref.isWhole_whole _) (laneF B 2 0) (laneF B 0 0) (laneF B 3 0) (laneF B 1 0) (laneF B 4 0)
            (k0_pay15 (F := F)) (tailF B 2 512 128) (tailF B 0 512 128) (tailF B 3 512 128) (tailF B 1 512 128) (tailF B 4 512 128) (Memref.whole cc0_scratch0) (Memref.isWhole_whole _) (num F s.j) s.kc) Q
    simp only [cc0_while1_eq_skeleton]; unfold cc0_while1_skel
    have htest : ¬ Scalar.cmpf .olt (num F s.j) (Scalar.ofBits .f32 0x44800000#32) = 1#1 := by
      rw [goes_on hs, decide_eq_false (by omega)]; decide
    simp only [htest, ↓reduceIte, Prog.pure_eq_ret]
    iintro ⟨H, Hk⟩
    rw [wp_ret]; imodintro
    iapply Hk
    iexact H
  | succ n ih =>
    intro s hs hn Q
    by_cases hj : s.j < 1024
    · have hstep : (step B T 0)^[n + 1] s = (step B T 0)^[n] ⟨next (clear B T 0 s.j s.kc) s.j, clear B T 0 s.j s.kc, clearTail B T 0 s.j s.K⟩ := by
        rw [Function.iterate_succ_apply]
        congr 1
        unfold step; rw [if_pos hj]
      rw [spec_apply, hstep]
      show _ ⊢ wp frame (wpE (defs₀ (F := F)) 𝒱₀ (c : Thread nD τ) (some (n + 1))) E
        (cc0_while1 (Memref.whole cc0_stg1_0) (Memref.isWhole_whole _) (laneF B 2 0) (laneF B 0 0) (laneF B 3 0) (laneF B 1 0) (laneF B 4 0)
            (k0_pay15 (F := F)) (tailF B 2 512 128) (tailF B 0 512 128) (tailF B 3 512 128) (tailF B 1 512 128) (tailF B 4 512 128) (Memref.whole cc0_scratch0) (Memref.isWhole_whole _) (num F s.j) s.kc) Q
      simp only [cc0_while1_eq_skeleton]; unfold cc0_while1_skel
      have htest : Scalar.cmpf .olt (num F s.j) (Scalar.ofBits .f32 0x44800000#32) = 1#1 := by
        rw [goes_on hs, decide_eq_true hj]; decide
      have hback : Scalar.fptosi 32 (num F s.j) = BitVec.ofNat 32 s.j := CursorOps.back _ hs
      have hn' := next_gt (clear B T 0 s.j s.kc) hj
      have hl' := next_le (clear B T 0 s.j s.kc) s.j
      simp only [k0_part6_eq_skeleton]; unfold k0_part6_skel
      simp only [htest, ↓reduceIte, smemLoad, smemLoadElt, Prog.lift, Prog.bind_op, Prog.bind_ret, Prog.pure_eq_ret]
      have hchk : k0_chk1 (Scalar.fptosi 32 (num F s.j)) := hback ▸ chk1 hj
      have hA : k0_off1 (Scalar.fptosi 32 (num F s.j)) 0 = 5 * (1024 * 0 + s.j) + 0 := by rw [hback]; exact offA1 hj
      have hB : ∀ x : ℕ, x < 5 → k0_off2 (Scalar.fptosi 32 (num F s.j)) (BitVec.ofNat 32 x) 0 = 5 * (1024 * 0 + s.j) + x := fun x hx => by
        rw [hback]; exact offB1 hj x hx
      have e1 := clear_pay1 (F := F) B T s.kc hs
      have e3 := next_cursor (F := F) (clear B T 0 s.j s.kc) hs
      unfold sc at e1
      unfold held
      iintro ⟨⟨HT, HK⟩, Hk⟩
      iapply (wp_assume 𝒱₀ (c : Thread nD τ) (some (n + 1)) E hchk)
      iapply (wp_load_rect 𝒱₀ (c : Thread nD τ) (some (n + 1)) E (m := Memref.whole cc0_stg1_0) (r := Rect.unit (s := S25600) (k0_off1 (Scalar.fptosi 32 (num F s.j))) S1.size (k0_off1_inb _ hchk)) (Finset.subset_univ _)) $$ HT; iintro HT
      iapply (wp_load_rect 𝒱₀ (c : Thread nD τ) (some (n + 1)) E (m := Memref.whole cc0_stg1_0) (r := Rect.unit (s := S25600) (k0_off2 (Scalar.fptosi 32 (num F s.j)) 1#32) S1.size (k0_off2_inb _ hchk 0)) (Finset.subset_univ _)) $$ HT; iintro HT
      iapply (wp_load_rect 𝒱₀ (c : Thread nD τ) (some (n + 1)) E (m := Memref.whole cc0_stg1_0) (r := Rect.unit (s := S25600) (k0_off2 (Scalar.fptosi 32 (num F s.j)) 2#32) S1.size (k0_off2_inb _ hchk 1)) (Finset.subset_univ _)) $$ HT; iintro HT
      iapply (wp_load_rect 𝒱₀ (c : Thread nD τ) (some (n + 1)) E (m := Memref.whole cc0_stg1_0) (r := Rect.unit (s := S25600) (k0_off2 (Scalar.fptosi 32 (num F s.j)) 3#32) S1.size (k0_off2_inb _ hchk 2)) (Finset.subset_univ _)) $$ HT; iintro HT
      iapply (wp_load_rect 𝒱₀ (c : Thread nD τ) (some (n + 1)) E (m := Memref.whole cc0_stg1_0) (r := Rect.unit (s := S25600) (k0_off2 (Scalar.fptosi 32 (num F s.j)) 4#32) S1.size (k0_off2_inb _ hchk 3)) (Finset.subset_univ _)) $$ HT; iintro HT
      rw [loadB _ _ (5 * (1024 * 0 + s.j) + 0) (by omega) hA T,
        loadB _ _ (5 * (1024 * 0 + s.j) + 1) (by omega) (hB 1 (by omega)) T,
        loadB _ _ (5 * (1024 * 0 + s.j) + 2) (by omega) (hB 2 (by omega)) T,
        loadB _ _ (5 * (1024 * 0 + s.j) + 3) (by omega) (hB 3 (by omega)) T,
        loadB _ _ (5 * (1024 * 0 + s.j) + 4) (by omega) (hB 4 (by omega)) T]
      iapply (wp_load 𝒱₀ (c : Thread nD τ) (some (n + 1)) E (m := Memref.whole cc0_scratch0) (Finset.subset_univ _)) $$ HK; iintro HK
      iapply (wp_load 𝒱₀ (c : Thread nD τ) (some (n + 1)) E (m := Memref.whole cc0_scratch0) (Finset.subset_univ _)) $$ HK; iintro HK
      rw [load8 512 128]
      iapply (wp_store 𝒱₀ (c : Thread nD τ) (some (n + 1)) E (m := Memref.whole cc0_scratch0)
        (r := Rect.unit (s := S8x640) ![0, 128] S8x512.size inb_S8x640_S8x512_0_128) (Mk := Finset.univ) (Finset.subset_univ _)) $$ HK; iintro HK
      have e2 := tail_pay1 (F := F) B T s.K s.j
      unfold sc at e2
      rw [e1, e3]; erw [e2]
      iapply (wp_call_spec 𝒱₀ (c : Thread nD τ) (some (n + 1)) E
        (spec c B T 0 n ⟨next (clear B T 0 s.j s.kc) s.j, clear B T 0 s.j s.kc, clearTail B T 0 s.j s.K⟩) n
        (fun u hu => by cases hu; exact Nat.lt_succ_self n)
        (ih ⟨next (clear B T 0 s.j s.kc) s.j, clear B T 0 s.j s.kc, clearTail B T 0 s.j s.K⟩ hl' (by show 1024 - next _ _ ≤ n; omega)))
      rw [spec_apply]; unfold held
      isplitl [HT HK]
      · isplitl [HT]; · iexact HT
        iexact HK
      iintro ⟨HT, HK⟩
      rw [wp_ret]; imodintro
      iapply Hk
      isplitl [HT]; · iexact HT
      iexact HK
    · rw [spec_apply, iterate_done B T 0 (n + 1) s hj]
      show _ ⊢ wp frame (wpE (defs₀ (F := F)) 𝒱₀ (c : Thread nD τ) (some (n + 1))) E
        (cc0_while1 (Memref.whole cc0_stg1_0) (Memref.isWhole_whole _) (laneF B 2 0) (laneF B 0 0) (laneF B 3 0) (laneF B 1 0) (laneF B 4 0)
            (k0_pay15 (F := F)) (tailF B 2 512 128) (tailF B 0 512 128) (tailF B 3 512 128) (tailF B 1 512 128) (tailF B 4 512 128) (Memref.whole cc0_scratch0) (Memref.isWhole_whole _) (num F s.j) s.kc) Q
      simp only [cc0_while1_eq_skeleton]; unfold cc0_while1_skel
      have htest : ¬ Scalar.cmpf .olt (num F s.j) (Scalar.ofBits .f32 0x44800000#32) = 1#1 := by
        rw [goes_on hs, decide_eq_false hj]; decide
      simp only [htest, ↓reduceIte, Prog.pure_eq_ret]
      iintro ⟨H, Hk⟩
      rw [wp_ret]; imodintro
      iapply Hk
      iexact H

end Cert.KernelIdeal.Sweep
-- ==== Proof.KernelIdealLoop2.lean ====
module

public import proofs.«01_k».proof.Proof.KernelIdealHeld

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

/-- Sweep 2's label meets the sweep's specification. -/
theorem loop2 (c : Dev nD) (B : S48x640.Idx → Elt F .f32) (T : Buf (Elt F) (((c : Dev nD) : Thread nD τ).loc cc0_stg1_0)) (E : Set ℕ) :
    ∀ n (s : St F), s.j ≤ 1024 → 1024 - s.j ≤ n → ∀ Q, spec c B T 1 n s Q
      ⊢ wp frame (wpE (defs₀ (F := F)) 𝒱₀ (c : Thread nD τ) (some n)) E
          (defs₀ (F := F) .tc 2 ⟨Memref.whole cc0_stg1_0, Memref.isWhole_whole _, laneF B 2 1, laneF B 0 1, laneF B 3 1, laneF B 1 1, laneF B 4 1,
            k0_pay15 (F := F), tailF B 2 384 256, tailF B 0 384 256, tailF B 3 384 256, tailF B 1 384 256, tailF B 4 384 256, Memref.whole cc0_scratch0, Memref.isWhole_whole _, num F s.j, s.kc⟩) Q := by
  intro n
  induction n with
  | zero =>
    intro s hs hn Q
    rw [spec_apply, iterate_done B T 1 0 s (by omega)]
    show _ ⊢ wp frame (wpE (defs₀ (F := F)) 𝒱₀ (c : Thread nD τ) (some 0)) E
      (cc0_while2 (Memref.whole cc0_stg1_0) (Memref.isWhole_whole _) (laneF B 2 1) (laneF B 0 1) (laneF B 3 1) (laneF B 1 1) (laneF B 4 1)
            (k0_pay15 (F := F)) (tailF B 2 384 256) (tailF B 0 384 256) (tailF B 3 384 256) (tailF B 1 384 256) (tailF B 4 384 256) (Memref.whole cc0_scratch0) (Memref.isWhole_whole _) (num F s.j) s.kc) Q
    simp only [cc0_while2_eq_skeleton]; unfold cc0_while2_skel
    have htest : ¬ Scalar.cmpf .olt (num F s.j) (Scalar.ofBits .f32 0x44800000#32) = 1#1 := by
      rw [goes_on hs, decide_eq_false (by omega)]; decide
    simp only [htest, ↓reduceIte, Prog.pure_eq_ret]
    iintro ⟨H, Hk⟩
    rw [wp_ret]; imodintro
    iapply Hk
    iexact H
  | succ n ih =>
    intro s hs hn Q
    by_cases hj : s.j < 1024
    · have hstep : (step B T 1)^[n + 1] s = (step B T 1)^[n] ⟨next (clear B T 1 s.j s.kc) s.j, clear B T 1 s.j s.kc, clearTail B T 1 s.j s.K⟩ := by
        rw [Function.iterate_succ_apply]
        congr 1
        unfold step; rw [if_pos hj]
      rw [spec_apply, hstep]
      show _ ⊢ wp frame (wpE (defs₀ (F := F)) 𝒱₀ (c : Thread nD τ) (some (n + 1))) E
        (cc0_while2 (Memref.whole cc0_stg1_0) (Memref.isWhole_whole _) (laneF B 2 1) (laneF B 0 1) (laneF B 3 1) (laneF B 1 1) (laneF B 4 1)
            (k0_pay15 (F := F)) (tailF B 2 384 256) (tailF B 0 384 256) (tailF B 3 384 256) (tailF B 1 384 256) (tailF B 4 384 256) (Memref.whole cc0_scratch0) (Memref.isWhole_whole _) (num F s.j) s.kc) Q
      simp only [cc0_while2_eq_skeleton]; unfold cc0_while2_skel
      have htest : Scalar.cmpf .olt (num F s.j) (Scalar.ofBits .f32 0x44800000#32) = 1#1 := by
        rw [goes_on hs, decide_eq_true hj]; decide
      have hback : Scalar.fptosi 32 (num F s.j) = BitVec.ofNat 32 s.j := CursorOps.back _ hs
      have hn' := next_gt (clear B T 1 s.j s.kc) hj
      have hl' := next_le (clear B T 1 s.j s.kc) s.j
      simp only [k0_part7_eq_skeleton]; unfold k0_part7_skel
      simp only [htest, ↓reduceIte, smemLoad, smemLoadElt, Prog.lift, Prog.bind_op, Prog.bind_ret, Prog.pure_eq_ret]
      have hchk : k0_chk2 (Scalar.fptosi 32 (num F s.j)) := hback ▸ chk2 hj
      have hA : k0_off3 (Scalar.fptosi 32 (num F s.j)) 0 = 5 * (1024 * 1 + s.j) + 0 := by rw [hback]; exact offA2 hj
      have hB : ∀ x : ℕ, x < 5 → k0_off4 (Scalar.fptosi 32 (num F s.j)) (BitVec.ofNat 32 x) 0 = 5 * (1024 * 1 + s.j) + x := fun x hx => by
        rw [hback]; exact offB2 hj x hx
      have e1 := clear_pay2 (F := F) B T s.kc hs
      have e3 := next_cursor2 (F := F) (clear B T 1 s.j s.kc) hs
      unfold sc at e1
      unfold held
      iintro ⟨⟨HT, HK⟩, Hk⟩
      iapply (wp_assume 𝒱₀ (c : Thread nD τ) (some (n + 1)) E hchk)
      iapply (wp_load_rect 𝒱₀ (c : Thread nD τ) (some (n + 1)) E (m := Memref.whole cc0_stg1_0) (r := Rect.unit (s := S25600) (k0_off3 (Scalar.fptosi 32 (num F s.j))) S1.size (k0_off3_inb _ hchk)) (Finset.subset_univ _)) $$ HT; iintro HT
      iapply (wp_load_rect 𝒱₀ (c : Thread nD τ) (some (n + 1)) E (m := Memref.whole cc0_stg1_0) (r := Rect.unit (s := S25600) (k0_off4 (Scalar.fptosi 32 (num F s.j)) 1#32) S1.size (k0_off4_inb _ hchk 0)) (Finset.subset_univ _)) $$ HT; iintro HT
      iapply (wp_load_rect 𝒱₀ (c : Thread nD τ) (some (n + 1)) E (m := Memref.whole cc0_stg1_0) (r := Rect.unit (s := S25600) (k0_off4 (Scalar.fptosi 32 (num F s.j)) 2#32) S1.size (k0_off4_inb _ hchk 1)) (Finset.subset_univ _)) $$ HT; iintro HT
      iapply (wp_load_rect 𝒱₀ (c : Thread nD τ) (some (n + 1)) E (m := Memref.whole cc0_stg1_0) (r := Rect.unit (s := S25600) (k0_off4 (Scalar.fptosi 32 (num F s.j)) 3#32) S1.size (k0_off4_inb _ hchk 2)) (Finset.subset_univ _)) $$ HT; iintro HT
      iapply (wp_load_rect 𝒱₀ (c : Thread nD τ) (some (n + 1)) E (m := Memref.whole cc0_stg1_0) (r := Rect.unit (s := S25600) (k0_off4 (Scalar.fptosi 32 (num F s.j)) 4#32) S1.size (k0_off4_inb _ hchk 3)) (Finset.subset_univ _)) $$ HT; iintro HT
      rw [loadB _ _ (5 * (1024 * 1 + s.j) + 0) (by omega) hA T,
        loadB _ _ (5 * (1024 * 1 + s.j) + 1) (by omega) (hB 1 (by omega)) T,
        loadB _ _ (5 * (1024 * 1 + s.j) + 2) (by omega) (hB 2 (by omega)) T,
        loadB _ _ (5 * (1024 * 1 + s.j) + 3) (by omega) (hB 3 (by omega)) T,
        loadB _ _ (5 * (1024 * 1 + s.j) + 4) (by omega) (hB 4 (by omega)) T]
      iapply (wp_load 𝒱₀ (c : Thread nD τ) (some (n + 1)) E (m := Memref.whole cc0_scratch0) (Finset.subset_univ _)) $$ HK; iintro HK
      iapply (wp_load 𝒱₀ (c : Thread nD τ) (some (n + 1)) E (m := Memref.whole cc0_scratch0) (Finset.subset_univ _)) $$ HK; iintro HK
      rw [load8 384 256]
      iapply (wp_store 𝒱₀ (c : Thread nD τ) (some (n + 1)) E (m := Memref.whole cc0_scratch0)
        (r := Rect.unit (s := S8x640) ![0, 256] S8x384.size inb_S8x640_S8x384_0_256) (Mk := Finset.univ) (Finset.subset_univ _)) $$ HK; iintro HK
      have e2 := tail_pay2 (F := F) B T s.K s.j
      unfold sc at e2
      rw [e1, e3]; erw [e2]
      iapply (wp_call_spec 𝒱₀ (c : Thread nD τ) (some (n + 1)) E
        (spec c B T 1 n ⟨next (clear B T 1 s.j s.kc) s.j, clear B T 1 s.j s.kc, clearTail B T 1 s.j s.K⟩) n
        (fun u hu => by cases hu; exact Nat.lt_succ_self n)
        (ih ⟨next (clear B T 1 s.j s.kc) s.j, clear B T 1 s.j s.kc, clearTail B T 1 s.j s.K⟩ hl' (by show 1024 - next _ _ ≤ n; omega)))
      rw [spec_apply]; unfold held
      isplitl [HT HK]
      · isplitl [HT]; · iexact HT
        iexact HK
      iintro ⟨HT, HK⟩
      rw [wp_ret]; imodintro
      iapply Hk
      isplitl [HT]; · iexact HT
      iexact HK
    · rw [spec_apply, iterate_done B T 1 (n + 1) s hj]
      show _ ⊢ wp frame (wpE (defs₀ (F := F)) 𝒱₀ (c : Thread nD τ) (some (n + 1))) E
        (cc0_while2 (Memref.whole cc0_stg1_0) (Memref.isWhole_whole _) (laneF B 2 1) (laneF B 0 1) (laneF B 3 1) (laneF B 1 1) (laneF B 4 1)
            (k0_pay15 (F := F)) (tailF B 2 384 256) (tailF B 0 384 256) (tailF B 3 384 256) (tailF B 1 384 256) (tailF B 4 384 256) (Memref.whole cc0_scratch0) (Memref.isWhole_whole _) (num F s.j) s.kc) Q
      simp only [cc0_while2_eq_skeleton]; unfold cc0_while2_skel
      have htest : ¬ Scalar.cmpf .olt (num F s.j) (Scalar.ofBits .f32 0x44800000#32) = 1#1 := by
        rw [goes_on hs, decide_eq_false hj]; decide
      simp only [htest, ↓reduceIte, Prog.pure_eq_ret]
      iintro ⟨H, Hk⟩
      rw [wp_ret]; imodintro
      iapply Hk
      iexact H

end Cert.KernelIdeal.Sweep
-- ==== Proof.KernelIdealLoop3.lean ====
module

public import proofs.«01_k».proof.Proof.KernelIdealHeld

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

/-- Sweep 3's label meets the sweep's specification. -/
theorem loop3 (c : Dev nD) (B : S48x640.Idx → Elt F .f32) (T : Buf (Elt F) (((c : Dev nD) : Thread nD τ).loc cc0_stg1_0)) (E : Set ℕ) :
    ∀ n (s : St F), s.j ≤ 1024 → 1024 - s.j ≤ n → ∀ Q, spec c B T 2 n s Q
      ⊢ wp frame (wpE (defs₀ (F := F)) 𝒱₀ (c : Thread nD τ) (some n)) E
          (defs₀ (F := F) .tc 3 ⟨Memref.whole cc0_stg1_0, Memref.isWhole_whole _, laneF B 2 2, laneF B 0 2, laneF B 3 2, laneF B 1 2, laneF B 4 2,
            k0_pay15 (F := F), tailF B 2 256 384, tailF B 0 256 384, tailF B 3 256 384, tailF B 1 256 384, tailF B 4 256 384, Memref.whole cc0_scratch0, Memref.isWhole_whole _, num F s.j, s.kc⟩) Q := by
  intro n
  induction n with
  | zero =>
    intro s hs hn Q
    rw [spec_apply, iterate_done B T 2 0 s (by omega)]
    show _ ⊢ wp frame (wpE (defs₀ (F := F)) 𝒱₀ (c : Thread nD τ) (some 0)) E
      (cc0_while3 (Memref.whole cc0_stg1_0) (Memref.isWhole_whole _) (laneF B 2 2) (laneF B 0 2) (laneF B 3 2) (laneF B 1 2) (laneF B 4 2)
            (k0_pay15 (F := F)) (tailF B 2 256 384) (tailF B 0 256 384) (tailF B 3 256 384) (tailF B 1 256 384) (tailF B 4 256 384) (Memref.whole cc0_scratch0) (Memref.isWhole_whole _) (num F s.j) s.kc) Q
    simp only [cc0_while3_eq_skeleton]; unfold cc0_while3_skel
    have htest : ¬ Scalar.cmpf .olt (num F s.j) (Scalar.ofBits .f32 0x44800000#32) = 1#1 := by
      rw [goes_on hs, decide_eq_false (by omega)]; decide
    simp only [htest, ↓reduceIte, Prog.pure_eq_ret]
    iintro ⟨H, Hk⟩
    rw [wp_ret]; imodintro
    iapply Hk
    iexact H
  | succ n ih =>
    intro s hs hn Q
    by_cases hj : s.j < 1024
    · have hstep : (step B T 2)^[n + 1] s = (step B T 2)^[n] ⟨next (clear B T 2 s.j s.kc) s.j, clear B T 2 s.j s.kc, clearTail B T 2 s.j s.K⟩ := by
        rw [Function.iterate_succ_apply]
        congr 1
        unfold step; rw [if_pos hj]
      rw [spec_apply, hstep]
      show _ ⊢ wp frame (wpE (defs₀ (F := F)) 𝒱₀ (c : Thread nD τ) (some (n + 1))) E
        (cc0_while3 (Memref.whole cc0_stg1_0) (Memref.isWhole_whole _) (laneF B 2 2) (laneF B 0 2) (laneF B 3 2) (laneF B 1 2) (laneF B 4 2)
            (k0_pay15 (F := F)) (tailF B 2 256 384) (tailF B 0 256 384) (tailF B 3 256 384) (tailF B 1 256 384) (tailF B 4 256 384) (Memref.whole cc0_scratch0) (Memref.isWhole_whole _) (num F s.j) s.kc) Q
      simp only [cc0_while3_eq_skeleton]; unfold cc0_while3_skel
      have htest : Scalar.cmpf .olt (num F s.j) (Scalar.ofBits .f32 0x44800000#32) = 1#1 := by
        rw [goes_on hs, decide_eq_true hj]; decide
      have hback : Scalar.fptosi 32 (num F s.j) = BitVec.ofNat 32 s.j := CursorOps.back _ hs
      have hn' := next_gt (clear B T 2 s.j s.kc) hj
      have hl' := next_le (clear B T 2 s.j s.kc) s.j
      simp only [k0_part8_eq_skeleton]; unfold k0_part8_skel
      simp only [htest, ↓reduceIte, smemLoad, smemLoadElt, Prog.lift, Prog.bind_op, Prog.bind_ret, Prog.pure_eq_ret]
      have hchk : k0_chk3 (Scalar.fptosi 32 (num F s.j)) := hback ▸ chk3 hj
      have hA : k0_off5 (Scalar.fptosi 32 (num F s.j)) 0 = 5 * (1024 * 2 + s.j) + 0 := by rw [hback]; exact offA3 hj
      have hB : ∀ x : ℕ, x < 5 → k0_off6 (Scalar.fptosi 32 (num F s.j)) (BitVec.ofNat 32 x) 0 = 5 * (1024 * 2 + s.j) + x := fun x hx => by
        rw [hback]; exact offB3 hj x hx
      have e1 := clear_pay3 (F := F) B T s.kc hs
      have e3 := next_cursor3 (F := F) (clear B T 2 s.j s.kc) hs
      unfold sc at e1
      unfold held
      iintro ⟨⟨HT, HK⟩, Hk⟩
      iapply (wp_assume 𝒱₀ (c : Thread nD τ) (some (n + 1)) E hchk)
      iapply (wp_load_rect 𝒱₀ (c : Thread nD τ) (some (n + 1)) E (m := Memref.whole cc0_stg1_0) (r := Rect.unit (s := S25600) (k0_off5 (Scalar.fptosi 32 (num F s.j))) S1.size (k0_off5_inb _ hchk)) (Finset.subset_univ _)) $$ HT; iintro HT
      iapply (wp_load_rect 𝒱₀ (c : Thread nD τ) (some (n + 1)) E (m := Memref.whole cc0_stg1_0) (r := Rect.unit (s := S25600) (k0_off6 (Scalar.fptosi 32 (num F s.j)) 1#32) S1.size (k0_off6_inb _ hchk 0)) (Finset.subset_univ _)) $$ HT; iintro HT
      iapply (wp_load_rect 𝒱₀ (c : Thread nD τ) (some (n + 1)) E (m := Memref.whole cc0_stg1_0) (r := Rect.unit (s := S25600) (k0_off6 (Scalar.fptosi 32 (num F s.j)) 2#32) S1.size (k0_off6_inb _ hchk 1)) (Finset.subset_univ _)) $$ HT; iintro HT
      iapply (wp_load_rect 𝒱₀ (c : Thread nD τ) (some (n + 1)) E (m := Memref.whole cc0_stg1_0) (r := Rect.unit (s := S25600) (k0_off6 (Scalar.fptosi 32 (num F s.j)) 3#32) S1.size (k0_off6_inb _ hchk 2)) (Finset.subset_univ _)) $$ HT; iintro HT
      iapply (wp_load_rect 𝒱₀ (c : Thread nD τ) (some (n + 1)) E (m := Memref.whole cc0_stg1_0) (r := Rect.unit (s := S25600) (k0_off6 (Scalar.fptosi 32 (num F s.j)) 4#32) S1.size (k0_off6_inb _ hchk 3)) (Finset.subset_univ _)) $$ HT; iintro HT
      rw [loadB _ _ (5 * (1024 * 2 + s.j) + 0) (by omega) hA T,
        loadB _ _ (5 * (1024 * 2 + s.j) + 1) (by omega) (hB 1 (by omega)) T,
        loadB _ _ (5 * (1024 * 2 + s.j) + 2) (by omega) (hB 2 (by omega)) T,
        loadB _ _ (5 * (1024 * 2 + s.j) + 3) (by omega) (hB 3 (by omega)) T,
        loadB _ _ (5 * (1024 * 2 + s.j) + 4) (by omega) (hB 4 (by omega)) T]
      iapply (wp_load 𝒱₀ (c : Thread nD τ) (some (n + 1)) E (m := Memref.whole cc0_scratch0) (Finset.subset_univ _)) $$ HK; iintro HK
      iapply (wp_load 𝒱₀ (c : Thread nD τ) (some (n + 1)) E (m := Memref.whole cc0_scratch0) (Finset.subset_univ _)) $$ HK; iintro HK
      rw [load8 256 384]
      iapply (wp_store 𝒱₀ (c : Thread nD τ) (some (n + 1)) E (m := Memref.whole cc0_scratch0)
        (r := Rect.unit (s := S8x640) ![0, 384] S8x256.size inb_S8x640_S8x256_0_384) (Mk := Finset.univ) (Finset.subset_univ _)) $$ HK; iintro HK
      have e2 := tail_pay3 (F := F) B T s.K s.j
      unfold sc at e2
      rw [e1, e3]; erw [e2]
      iapply (wp_call_spec 𝒱₀ (c : Thread nD τ) (some (n + 1)) E
        (spec c B T 2 n ⟨next (clear B T 2 s.j s.kc) s.j, clear B T 2 s.j s.kc, clearTail B T 2 s.j s.K⟩) n
        (fun u hu => by cases hu; exact Nat.lt_succ_self n)
        (ih ⟨next (clear B T 2 s.j s.kc) s.j, clear B T 2 s.j s.kc, clearTail B T 2 s.j s.K⟩ hl' (by show 1024 - next _ _ ≤ n; omega)))
      rw [spec_apply]; unfold held
      isplitl [HT HK]
      · isplitl [HT]; · iexact HT
        iexact HK
      iintro ⟨HT, HK⟩
      rw [wp_ret]; imodintro
      iapply Hk
      isplitl [HT]; · iexact HT
      iexact HK
    · rw [spec_apply, iterate_done B T 2 (n + 1) s hj]
      show _ ⊢ wp frame (wpE (defs₀ (F := F)) 𝒱₀ (c : Thread nD τ) (some (n + 1))) E
        (cc0_while3 (Memref.whole cc0_stg1_0) (Memref.isWhole_whole _) (laneF B 2 2) (laneF B 0 2) (laneF B 3 2) (laneF B 1 2) (laneF B 4 2)
            (k0_pay15 (F := F)) (tailF B 2 256 384) (tailF B 0 256 384) (tailF B 3 256 384) (tailF B 1 256 384) (tailF B 4 256 384) (Memref.whole cc0_scratch0) (Memref.isWhole_whole _) (num F s.j) s.kc) Q
      simp only [cc0_while3_eq_skeleton]; unfold cc0_while3_skel
      have htest : ¬ Scalar.cmpf .olt (num F s.j) (Scalar.ofBits .f32 0x44800000#32) = 1#1 := by
        rw [goes_on hs, decide_eq_false hj]; decide
      simp only [htest, ↓reduceIte, Prog.pure_eq_ret]
      iintro ⟨H, Hk⟩
      rw [wp_ret]; imodintro
      iapply Hk
      iexact H

end Cert.KernelIdeal.Sweep
-- ==== Proof.KernelIdealLoop4.lean ====
module

public import proofs.«01_k».proof.Proof.KernelIdealHeld

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

/-- Sweep 4's label meets the sweep's specification. -/
theorem loop4 (c : Dev nD) (B : S48x640.Idx → Elt F .f32) (T : Buf (Elt F) (((c : Dev nD) : Thread nD τ).loc cc0_stg1_0)) (E : Set ℕ) :
    ∀ n (s : St F), s.j ≤ 1024 → 1024 - s.j ≤ n → ∀ Q, spec c B T 3 n s Q
      ⊢ wp frame (wpE (defs₀ (F := F)) 𝒱₀ (c : Thread nD τ) (some n)) E
          (defs₀ (F := F) .tc 4 ⟨Memref.whole cc0_stg1_0, Memref.isWhole_whole _, laneF B 2 3, laneF B 0 3, laneF B 3 3, laneF B 1 3, laneF B 4 3,
            k0_pay15 (F := F), tailF B 2 128 512, tailF B 0 128 512, tailF B 3 128 512, tailF B 1 128 512, tailF B 4 128 512, Memref.whole cc0_scratch0, Memref.isWhole_whole _, num F s.j, s.kc⟩) Q := by
  intro n
  induction n with
  | zero =>
    intro s hs hn Q
    rw [spec_apply, iterate_done B T 3 0 s (by omega)]
    show _ ⊢ wp frame (wpE (defs₀ (F := F)) 𝒱₀ (c : Thread nD τ) (some 0)) E
      (cc0_while4 (Memref.whole cc0_stg1_0) (Memref.isWhole_whole _) (laneF B 2 3) (laneF B 0 3) (laneF B 3 3) (laneF B 1 3) (laneF B 4 3)
            (k0_pay15 (F := F)) (tailF B 2 128 512) (tailF B 0 128 512) (tailF B 3 128 512) (tailF B 1 128 512) (tailF B 4 128 512) (Memref.whole cc0_scratch0) (Memref.isWhole_whole _) (num F s.j) s.kc) Q
    simp only [cc0_while4_eq_skeleton]; unfold cc0_while4_skel
    have htest : ¬ Scalar.cmpf .olt (num F s.j) (Scalar.ofBits .f32 0x44800000#32) = 1#1 := by
      rw [goes_on hs, decide_eq_false (by omega)]; decide
    simp only [htest, ↓reduceIte, Prog.pure_eq_ret]
    iintro ⟨H, Hk⟩
    rw [wp_ret]; imodintro
    iapply Hk
    iexact H
  | succ n ih =>
    intro s hs hn Q
    by_cases hj : s.j < 1024
    · have hstep : (step B T 3)^[n + 1] s = (step B T 3)^[n] ⟨next (clear B T 3 s.j s.kc) s.j, clear B T 3 s.j s.kc, clearTail B T 3 s.j s.K⟩ := by
        rw [Function.iterate_succ_apply]
        congr 1
        unfold step; rw [if_pos hj]
      rw [spec_apply, hstep]
      show _ ⊢ wp frame (wpE (defs₀ (F := F)) 𝒱₀ (c : Thread nD τ) (some (n + 1))) E
        (cc0_while4 (Memref.whole cc0_stg1_0) (Memref.isWhole_whole _) (laneF B 2 3) (laneF B 0 3) (laneF B 3 3) (laneF B 1 3) (laneF B 4 3)
            (k0_pay15 (F := F)) (tailF B 2 128 512) (tailF B 0 128 512) (tailF B 3 128 512) (tailF B 1 128 512) (tailF B 4 128 512) (Memref.whole cc0_scratch0) (Memref.isWhole_whole _) (num F s.j) s.kc) Q
      simp only [cc0_while4_eq_skeleton]; unfold cc0_while4_skel
      have htest : Scalar.cmpf .olt (num F s.j) (Scalar.ofBits .f32 0x44800000#32) = 1#1 := by
        rw [goes_on hs, decide_eq_true hj]; decide
      have hback : Scalar.fptosi 32 (num F s.j) = BitVec.ofNat 32 s.j := CursorOps.back _ hs
      have hn' := next_gt (clear B T 3 s.j s.kc) hj
      have hl' := next_le (clear B T 3 s.j s.kc) s.j
      simp only [k0_part9_eq_skeleton]; unfold k0_part9_skel
      simp only [htest, ↓reduceIte, smemLoad, smemLoadElt, Prog.lift, Prog.bind_op, Prog.bind_ret, Prog.pure_eq_ret]
      have hchk : k0_chk4 (Scalar.fptosi 32 (num F s.j)) := hback ▸ chk4 hj
      have hA : k0_off7 (Scalar.fptosi 32 (num F s.j)) 0 = 5 * (1024 * 3 + s.j) + 0 := by rw [hback]; exact offA4 hj
      have hB : ∀ x : ℕ, x < 5 → k0_off8 (Scalar.fptosi 32 (num F s.j)) (BitVec.ofNat 32 x) 0 = 5 * (1024 * 3 + s.j) + x := fun x hx => by
        rw [hback]; exact offB4 hj x hx
      have e1 := clear_pay4 (F := F) B T s.kc hs
      have e3 := next_cursor4 (F := F) (clear B T 3 s.j s.kc) hs
      unfold sc at e1
      unfold held
      iintro ⟨⟨HT, HK⟩, Hk⟩
      iapply (wp_assume 𝒱₀ (c : Thread nD τ) (some (n + 1)) E hchk)
      iapply (wp_load_rect 𝒱₀ (c : Thread nD τ) (some (n + 1)) E (m := Memref.whole cc0_stg1_0) (r := Rect.unit (s := S25600) (k0_off7 (Scalar.fptosi 32 (num F s.j))) S1.size (k0_off7_inb _ hchk)) (Finset.subset_univ _)) $$ HT; iintro HT
      iapply (wp_load_rect 𝒱₀ (c : Thread nD τ) (some (n + 1)) E (m := Memref.whole cc0_stg1_0) (r := Rect.unit (s := S25600) (k0_off8 (Scalar.fptosi 32 (num F s.j)) 1#32) S1.size (k0_off8_inb _ hchk 0)) (Finset.subset_univ _)) $$ HT; iintro HT
      iapply (wp_load_rect 𝒱₀ (c : Thread nD τ) (some (n + 1)) E (m := Memref.whole cc0_stg1_0) (r := Rect.unit (s := S25600) (k0_off8 (Scalar.fptosi 32 (num F s.j)) 2#32) S1.size (k0_off8_inb _ hchk 1)) (Finset.subset_univ _)) $$ HT; iintro HT
      iapply (wp_load_rect 𝒱₀ (c : Thread nD τ) (some (n + 1)) E (m := Memref.whole cc0_stg1_0) (r := Rect.unit (s := S25600) (k0_off8 (Scalar.fptosi 32 (num F s.j)) 3#32) S1.size (k0_off8_inb _ hchk 2)) (Finset.subset_univ _)) $$ HT; iintro HT
      iapply (wp_load_rect 𝒱₀ (c : Thread nD τ) (some (n + 1)) E (m := Memref.whole cc0_stg1_0) (r := Rect.unit (s := S25600) (k0_off8 (Scalar.fptosi 32 (num F s.j)) 4#32) S1.size (k0_off8_inb _ hchk 3)) (Finset.subset_univ _)) $$ HT; iintro HT
      rw [loadB _ _ (5 * (1024 * 3 + s.j) + 0) (by omega) hA T,
        loadB _ _ (5 * (1024 * 3 + s.j) + 1) (by omega) (hB 1 (by omega)) T,
        loadB _ _ (5 * (1024 * 3 + s.j) + 2) (by omega) (hB 2 (by omega)) T,
        loadB _ _ (5 * (1024 * 3 + s.j) + 3) (by omega) (hB 3 (by omega)) T,
        loadB _ _ (5 * (1024 * 3 + s.j) + 4) (by omega) (hB 4 (by omega)) T]
      iapply (wp_load 𝒱₀ (c : Thread nD τ) (some (n + 1)) E (m := Memref.whole cc0_scratch0) (Finset.subset_univ _)) $$ HK; iintro HK
      iapply (wp_load 𝒱₀ (c : Thread nD τ) (some (n + 1)) E (m := Memref.whole cc0_scratch0) (Finset.subset_univ _)) $$ HK; iintro HK
      rw [load8 128 512]
      iapply (wp_store 𝒱₀ (c : Thread nD τ) (some (n + 1)) E (m := Memref.whole cc0_scratch0)
        (r := Rect.unit (s := S8x640) ![0, 512] S8x128.size inb_S8x640_S8x128_0_512) (Mk := Finset.univ) (Finset.subset_univ _)) $$ HK; iintro HK
      have e2 := tail_pay4 (F := F) B T s.K s.j
      unfold sc at e2
      rw [e1, e3]; erw [e2]
      iapply (wp_call_spec 𝒱₀ (c : Thread nD τ) (some (n + 1)) E
        (spec c B T 3 n ⟨next (clear B T 3 s.j s.kc) s.j, clear B T 3 s.j s.kc, clearTail B T 3 s.j s.K⟩) n
        (fun u hu => by cases hu; exact Nat.lt_succ_self n)
        (ih ⟨next (clear B T 3 s.j s.kc) s.j, clear B T 3 s.j s.kc, clearTail B T 3 s.j s.K⟩ hl' (by show 1024 - next _ _ ≤ n; omega)))
      rw [spec_apply]; unfold held
      isplitl [HT HK]
      · isplitl [HT]; · iexact HT
        iexact HK
      iintro ⟨HT, HK⟩
      rw [wp_ret]; imodintro
      iapply Hk
      isplitl [HT]; · iexact HT
      iexact HK
    · rw [spec_apply, iterate_done B T 3 (n + 1) s hj]
      show _ ⊢ wp frame (wpE (defs₀ (F := F)) 𝒱₀ (c : Thread nD τ) (some (n + 1))) E
        (cc0_while4 (Memref.whole cc0_stg1_0) (Memref.isWhole_whole _) (laneF B 2 3) (laneF B 0 3) (laneF B 3 3) (laneF B 1 3) (laneF B 4 3)
            (k0_pay15 (F := F)) (tailF B 2 128 512) (tailF B 0 128 512) (tailF B 3 128 512) (tailF B 1 128 512) (tailF B 4 128 512) (Memref.whole cc0_scratch0) (Memref.isWhole_whole _) (num F s.j) s.kc) Q
      simp only [cc0_while4_eq_skeleton]; unfold cc0_while4_skel
      have htest : ¬ Scalar.cmpf .olt (num F s.j) (Scalar.ofBits .f32 0x44800000#32) = 1#1 := by
        rw [goes_on hs, decide_eq_false hj]; decide
      simp only [htest, ↓reduceIte, Prog.pure_eq_ret]
      iintro ⟨H, Hk⟩
      rw [wp_ret]; imodintro
      iapply Hk
      iexact H

end Cert.KernelIdeal.Sweep
-- ==== Proof.KernelIdealLoop5.lean ====
module

public import proofs.«01_k».proof.Proof.KernelIdealHeld

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

/-- Sweep 5's label meets the sweep's specification. -/
theorem loop5 (c : Dev nD) (B : S48x640.Idx → Elt F .f32) (T : Buf (Elt F) (((c : Dev nD) : Thread nD τ).loc cc0_stg1_0)) (E : Set ℕ) :
    ∀ n (s : St F), s.j ≤ 1024 → 1024 - s.j ≤ n → ∀ Q, spec c B T 4 n s Q
      ⊢ wp frame (wpE (defs₀ (F := F)) 𝒱₀ (c : Thread nD τ) (some n)) E
          (defs₀ (F := F) .tc 5 ⟨Memref.whole cc0_stg1_0, Memref.isWhole_whole _, laneF B 2 4, laneF B 0 4, laneF B 3 4, laneF B 1 4, laneF B 4 4,
            k0_pay15 (F := F),   num F s.j, s.kc⟩) Q := by
  intro n
  induction n with
  | zero =>
    intro s hs hn Q
    rw [spec_apply, iterate_done B T 4 0 s (by omega)]
    show _ ⊢ wp frame (wpE (defs₀ (F := F)) 𝒱₀ (c : Thread nD τ) (some 0)) E
      (cc0_while5 (Memref.whole cc0_stg1_0) (Memref.isWhole_whole _) (laneF B 2 4) (laneF B 0 4) (laneF B 3 4) (laneF B 1 4) (laneF B 4 4)
            (k0_pay15 (F := F))   (num F s.j) s.kc) Q
    simp only [cc0_while5_eq_skeleton]; unfold cc0_while5_skel
    have htest : ¬ Scalar.cmpf .olt (num F s.j) (Scalar.ofBits .f32 0x44800000#32) = 1#1 := by
      rw [goes_on hs, decide_eq_false (by omega)]; decide
    simp only [htest, ↓reduceIte, Prog.pure_eq_ret]
    iintro ⟨H, Hk⟩
    rw [wp_ret]; imodintro
    iapply Hk
    iexact H
  | succ n ih =>
    intro s hs hn Q
    by_cases hj : s.j < 1024
    · have hstep : (step B T 4)^[n + 1] s = (step B T 4)^[n] ⟨next (clear B T 4 s.j s.kc) s.j, clear B T 4 s.j s.kc, clearTail B T 4 s.j s.K⟩ := by
        rw [Function.iterate_succ_apply]
        congr 1
        unfold step; rw [if_pos hj]
      rw [spec_apply, hstep]
      show _ ⊢ wp frame (wpE (defs₀ (F := F)) 𝒱₀ (c : Thread nD τ) (some (n + 1))) E
        (cc0_while5 (Memref.whole cc0_stg1_0) (Memref.isWhole_whole _) (laneF B 2 4) (laneF B 0 4) (laneF B 3 4) (laneF B 1 4) (laneF B 4 4)
            (k0_pay15 (F := F))   (num F s.j) s.kc) Q
      simp only [cc0_while5_eq_skeleton]; unfold cc0_while5_skel
      have htest : Scalar.cmpf .olt (num F s.j) (Scalar.ofBits .f32 0x44800000#32) = 1#1 := by
        rw [goes_on hs, decide_eq_true hj]; decide
      have hback : Scalar.fptosi 32 (num F s.j) = BitVec.ofNat 32 s.j := CursorOps.back _ hs
      have hn' := next_gt (clear B T 4 s.j s.kc) hj
      have hl' := next_le (clear B T 4 s.j s.kc) s.j
      simp only [k0_part10_eq_skeleton]; unfold k0_part10_skel
      simp only [htest, ↓reduceIte, smemLoad, smemLoadElt, Prog.lift, Prog.bind_op, Prog.bind_ret, Prog.pure_eq_ret]
      have hchk : k0_chk5 (Scalar.fptosi 32 (num F s.j)) := hback ▸ chk5 hj
      have hA : k0_off9 (Scalar.fptosi 32 (num F s.j)) 0 = 5 * (1024 * 4 + s.j) + 0 := by rw [hback]; exact offA5 hj
      have hB : ∀ x : ℕ, x < 5 → k0_off10 (Scalar.fptosi 32 (num F s.j)) (BitVec.ofNat 32 x) 0 = 5 * (1024 * 4 + s.j) + x := fun x hx => by
        rw [hback]; exact offB5 hj x hx
      have e1 := clear_pay5 (F := F) B T s.kc hs
      have e3 := next_cursor (F := F) (clear B T 4 s.j s.kc) hs
      unfold sc at e1
      unfold held
      iintro ⟨⟨HT, HK⟩, Hk⟩
      iapply (wp_assume 𝒱₀ (c : Thread nD τ) (some (n + 1)) E hchk)
      iapply (wp_load_rect 𝒱₀ (c : Thread nD τ) (some (n + 1)) E (m := Memref.whole cc0_stg1_0) (r := Rect.unit (s := S25600) (k0_off9 (Scalar.fptosi 32 (num F s.j))) S1.size (k0_off9_inb _ hchk)) (Finset.subset_univ _)) $$ HT; iintro HT
      iapply (wp_load_rect 𝒱₀ (c : Thread nD τ) (some (n + 1)) E (m := Memref.whole cc0_stg1_0) (r := Rect.unit (s := S25600) (k0_off10 (Scalar.fptosi 32 (num F s.j)) 1#32) S1.size (k0_off10_inb _ hchk 0)) (Finset.subset_univ _)) $$ HT; iintro HT
      iapply (wp_load_rect 𝒱₀ (c : Thread nD τ) (some (n + 1)) E (m := Memref.whole cc0_stg1_0) (r := Rect.unit (s := S25600) (k0_off10 (Scalar.fptosi 32 (num F s.j)) 2#32) S1.size (k0_off10_inb _ hchk 1)) (Finset.subset_univ _)) $$ HT; iintro HT
      iapply (wp_load_rect 𝒱₀ (c : Thread nD τ) (some (n + 1)) E (m := Memref.whole cc0_stg1_0) (r := Rect.unit (s := S25600) (k0_off10 (Scalar.fptosi 32 (num F s.j)) 3#32) S1.size (k0_off10_inb _ hchk 2)) (Finset.subset_univ _)) $$ HT; iintro HT
      iapply (wp_load_rect 𝒱₀ (c : Thread nD τ) (some (n + 1)) E (m := Memref.whole cc0_stg1_0) (r := Rect.unit (s := S25600) (k0_off10 (Scalar.fptosi 32 (num F s.j)) 4#32) S1.size (k0_off10_inb _ hchk 3)) (Finset.subset_univ _)) $$ HT; iintro HT
      rw [loadB _ _ (5 * (1024 * 4 + s.j) + 0) (by omega) hA T,
        loadB _ _ (5 * (1024 * 4 + s.j) + 1) (by omega) (hB 1 (by omega)) T,
        loadB _ _ (5 * (1024 * 4 + s.j) + 2) (by omega) (hB 2 (by omega)) T,
        loadB _ _ (5 * (1024 * 4 + s.j) + 3) (by omega) (hB 3 (by omega)) T,
        loadB _ _ (5 * (1024 * 4 + s.j) + 4) (by omega) (hB 4 (by omega)) T]
      have e2 : clearTail B T 4 s.j s.K = s.K := clearTail_last B T s.j s.K
      have e4 := next_cursor5 (F := F) (laneF B 2 4) (laneF B 0 4) (laneF B 3 4) (laneF B 1 4) (laneF B 4 4) s.kc (num F s.j)
        (T (atB (5 * (1024 * 4 + s.j) + 0))) (T (atB (5 * (1024 * 4 + s.j) + 1))) (T (atB (5 * (1024 * 4 + s.j) + 2))) (T (atB (5 * (1024 * 4 + s.j) + 3))) (T (atB (5 * (1024 * 4 + s.j) + 4)))
      rw [e4, e1, e3, e2]
      iapply (wp_call_spec 𝒱₀ (c : Thread nD τ) (some (n + 1)) E
        (spec c B T 4 n ⟨next (clear B T 4 s.j s.kc) s.j, clear B T 4 s.j s.kc, s.K⟩) n
        (fun u hu => by cases hu; exact Nat.lt_succ_self n)
        (ih ⟨next (clear B T 4 s.j s.kc) s.j, clear B T 4 s.j s.kc, s.K⟩ hl' (by show 1024 - next _ _ ≤ n; omega)))
      rw [spec_apply]; unfold held
      isplitl [HT HK]
      · isplitl [HT]; · iexact HT
        iexact HK
      iintro ⟨HT, HK⟩
      rw [wp_ret]; imodintro
      iapply Hk
      isplitl [HT]; · iexact HT
      iexact HK
    · rw [spec_apply, iterate_done B T 4 (n + 1) s hj]
      show _ ⊢ wp frame (wpE (defs₀ (F := F)) 𝒱₀ (c : Thread nD τ) (some (n + 1))) E
        (cc0_while5 (Memref.whole cc0_stg1_0) (Memref.isWhole_whole _) (laneF B 2 4) (laneF B 0 4) (laneF B 3 4) (laneF B 1 4) (laneF B 4 4)
            (k0_pay15 (F := F))   (num F s.j) s.kc) Q
      simp only [cc0_while5_eq_skeleton]; unfold cc0_while5_skel
      have htest : ¬ Scalar.cmpf .olt (num F s.j) (Scalar.ofBits .f32 0x44800000#32) = 1#1 := by
        rw [goes_on hs, decide_eq_false hj]; decide
      simp only [htest, ↓reduceIte, Prog.pure_eq_ret]
      iintro ⟨H, Hk⟩
      rw [wp_ret]; imodintro
      iapply Hk
      iexact H

end Cert.KernelIdeal.Sweep
-- ==== Proof.KernelIdealParts.lean ====
module

public import proofs.«01_k».proof.Proof.KernelIdealBlocks
public import proofs.«01_k».proof.Proof.KernelIdealLoop1
public import proofs.«01_k».proof.Proof.KernelIdealLoop2
public import proofs.«01_k».proof.Proof.KernelIdealLoop3
public import proofs.«01_k».proof.Proof.KernelIdealLoop4
public import proofs.«01_k».proof.Proof.KernelIdealLoop5

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

set_option maxHeartbeats 1600000 in
/-- The first part of the kernel loads the first chunk's columns and lays the first marks. -/
theorem part1_run (c : Dev nD) (B : Buf (Elt F) (((c : Dev nD) : Thread nD τ).loc cc0_stg0_0)) (T : Buf (Elt F) (((c : Dev nD) : Thread nD τ).loc cc0_stg1_0)) (Q : _ → sProp 𝕄) :
    iprop((((c : Thread nD τ).loc cc0_stg0_0) ↦{fullShare} B) ∗ (((c : Thread nD τ).loc cc0_stg1_0) ↦{fullShare} T)
      ∗ (∃ f : Buf (Elt F) (((c : Dev nD) : Thread nD τ).loc cc0_scratch0), (((c : Thread nD τ).loc cc0_scratch0) ↦{fullShare} f))
      ∗ (((((c : Thread nD τ).loc cc0_stg0_0) ↦{fullShare} B) ∗ (((c : Thread nD τ).loc cc0_stg1_0) ↦{fullShare} T)
        ∗ (((c : Thread nD τ).loc cc0_scratch0) ↦{fullShare} (marks B T 0 : Buf (Elt F) (((c : Dev nD) : Thread nD τ).loc cc0_scratch0))))
        -∗ Q ⟨k0_pay13 (tailF B 5 640 0), k0_pay15 (F := F), laneF B 0 0, laneF B 1 0, laneF B 2 0, laneF B 3 0, laneF B 4 0, tailF B 0 512 128, tailF B 1 512 128, tailF B 2 512 128, tailF B 3 512 128⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) ) Q := by
  simp only [k0_part1_eq_skeleton]; unfold k0_part1_skel
  simp only [Prog.lift, Prog.bind_op, Prog.bind_ret, Prog.pure_eq_ret]
  iintro ⟨HB, HT, ⟨%f, HK⟩, Hk⟩
  iapply (wp_load 𝒱₀ (c : Thread nD τ) none Set.univ (m := Memref.whole cc0_stg0_0) (Finset.subset_univ _)) $$ HB; iintro HB
  rw [load_tail 5 640 40 0 rfl]
  iapply (wp_load 𝒱₀ (c : Thread nD τ) none Set.univ (m := Memref.whole cc0_scratch0) (Finset.subset_univ _)) $$ HK; iintro HK
  iapply (wp_store 𝒱₀ (c : Thread nD τ) none Set.univ (m := Memref.whole cc0_scratch0)
    (r := Rect.unit (s := S8x640) ![0, 0] S8x640.size inb_S8x640_S8x640_0_0) (Mk := Finset.univ) (Finset.subset_univ _)) $$ HK; iintro HK
  rw [marks_pay]; erw [store_marks]
  iapply (wp_load 𝒱₀ (c : Thread nD τ) none Set.univ (m := Memref.whole cc0_stg0_0) (Finset.subset_univ _)) $$ HB; iintro HB
  rw [load_lane 0 0 0 0 rfl rfl]
  iapply (wp_load 𝒱₀ (c : Thread nD τ) none Set.univ (m := Memref.whole cc0_stg0_0) (Finset.subset_univ _)) $$ HB; iintro HB
  rw [load_lane 1 0 8 0 rfl rfl]
  iapply (wp_load 𝒱₀ (c : Thread nD τ) none Set.univ (m := Memref.whole cc0_stg0_0) (Finset.subset_univ _)) $$ HB; iintro HB
  rw [load_lane 2 0 16 0 rfl rfl]
  iapply (wp_load 𝒱₀ (c : Thread nD τ) none Set.univ (m := Memref.whole cc0_stg0_0) (Finset.subset_univ _)) $$ HB; iintro HB
  rw [load_lane 3 0 24 0 rfl rfl]
  iapply (wp_load 𝒱₀ (c : Thread nD τ) none Set.univ (m := Memref.whole cc0_stg0_0) (Finset.subset_univ _)) $$ HB; iintro HB
  rw [load_lane 4 0 32 0 rfl rfl]
  iapply (wp_load 𝒱₀ (c : Thread nD τ) none Set.univ (m := Memref.whole cc0_stg0_0) (Finset.subset_univ _)) $$ HB; iintro HB
  rw [load_tail 0 512 0 128 rfl]
  iapply (wp_load 𝒱₀ (c : Thread nD τ) none Set.univ (m := Memref.whole cc0_stg0_0) (Finset.subset_univ _)) $$ HB; iintro HB
  rw [load_tail 1 512 8 128 rfl]
  iapply (wp_load 𝒱₀ (c : Thread nD τ) none Set.univ (m := Memref.whole cc0_stg0_0) (Finset.subset_univ _)) $$ HB; iintro HB
  rw [load_tail 2 512 16 128 rfl]
  iapply (wp_load 𝒱₀ (c : Thread nD τ) none Set.univ (m := Memref.whole cc0_stg0_0) (Finset.subset_univ _)) $$ HB; iintro HB
  rw [load_tail 3 512 24 128 rfl]
  rw [same16, same17, same18, same19, same20, same21, same22, same23]
  rw [wp_ret]; imodintro
  iapply Hk
  isplitl [HB]; · iexact HB
  isplitl [HT]; · iexact HT
  iexact HK

set_option maxHeartbeats 1600000 in
/-- Part 2 of the kernel runs sweep 1 and loads the next chunk's columns. -/
theorem part2_run (c : Dev nD) (B : Buf (Elt F) (((c : Dev nD) : Thread nD τ).loc cc0_stg0_0)) (T : Buf (Elt F) (((c : Dev nD) : Thread nD τ).loc cc0_stg1_0)) (Q : _ → sProp 𝕄) :
    iprop((((c : Thread nD τ).loc cc0_stg0_0) ↦{fullShare} B) ∗ (((c : Thread nD τ).loc cc0_stg1_0) ↦{fullShare} T)
      ∗ (((c : Thread nD τ).loc cc0_scratch0) ↦{fullShare} (marks B T 0 : Buf (Elt F) (((c : Dev nD) : Thread nD τ).loc cc0_scratch0)))
      ∗ (((((c : Thread nD τ).loc cc0_stg0_0) ↦{fullShare} B) ∗ (((c : Thread nD τ).loc cc0_stg1_0) ↦{fullShare} T)
        ∗ (((c : Thread nD τ).loc cc0_scratch0) ↦{fullShare} (marks B T 1 : Buf (Elt F) (((c : Dev nD) : Thread nD τ).loc cc0_scratch0))))
        -∗ Q ⟨laneF B 0 1, laneF B 1 1, laneF B 2 1, laneF B 3 1, laneF B 4 1, tailF B 0 384 256, tailF B 1 384 256, tailF B 2 384 256⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (k0_pay15 (F := F)) (laneF B 0 0) (laneF B 1 0) (laneF B 2 0) (laneF B 3 0) (laneF B 4 0) (tailF B 0 512 128) (tailF B 1 512 128) (tailF B 2 512 128) (tailF B 3 512 128)) Q := by
  simp only [k0_part2_eq_skeleton]; unfold k0_part2_skel
  simp only [Prog.lift, Prog.bind_op, Prog.bind_ret, Prog.pure_eq_ret]
  iintro ⟨HB, HT, HK, Hk⟩
  iapply (wp_load 𝒱₀ (c : Thread nD τ) none Set.univ (m := Memref.whole cc0_stg0_0) (Finset.subset_univ _)) $$ HB; iintro HB
  rw [load_tail 4 512 32 128 rfl]
  iapply (wp_load 𝒱₀ (c : Thread nD τ) none Set.univ (m := Memref.whole cc0_scratch0) (Finset.subset_univ _)) $$ HK; iintro HK
  rw [load_part 0 0 rfl]
  rw [same24, same25, first_cursor]
  iapply (wp_call_spec 𝒱₀ (c : Thread nD τ) none Set.univ (spec c B T 0 1024 (init 0 (marks B T 0))) 1024
    (fun u hu => nomatch hu) (loop1 c B T Set.univ 1024 (init 0 (marks B T 0)) (first_le _) (by omega)))
  rw [spec_apply]; unfold held
  isplitl [HT HK]
  · isplitl [HT]; · iexact HT
    iexact HK
  iintro ⟨HT, HK⟩
  iapply (wp_load 𝒱₀ (c : Thread nD τ) none Set.univ (m := Memref.whole cc0_scratch0) (Finset.subset_univ _)) $$ HK; iintro HK
  iapply (wp_store 𝒱₀ (c : Thread nD τ) none Set.univ (m := Memref.whole cc0_scratch0)
    (r := Rect.unit (s := S8x640) ![0, 0] S8x128.size inb_S8x640_S8x128_0_0) (Mk := Finset.univ) (Finset.subset_univ _)) $$ HK; iintro HK
  rw [same27]; erw [store_put 0 0 rfl, put_marks]
  iapply (wp_load 𝒱₀ (c : Thread nD τ) none Set.univ (m := Memref.whole cc0_stg0_0) (Finset.subset_univ _)) $$ HB; iintro HB
  rw [load_lane 0 1 0 128 rfl rfl]
  iapply (wp_load 𝒱₀ (c : Thread nD τ) none Set.univ (m := Memref.whole cc0_stg0_0) (Finset.subset_univ _)) $$ HB; iintro HB
  rw [load_lane 1 1 8 128 rfl rfl]
  iapply (wp_load 𝒱₀ (c : Thread nD τ) none Set.univ (m := Memref.whole cc0_stg0_0) (Finset.subset_univ _)) $$ HB; iintro HB
  rw [load_lane 2 1 16 128 rfl rfl]
  iapply (wp_load 𝒱₀ (c : Thread nD τ) none Set.univ (m := Memref.whole cc0_stg0_0) (Finset.subset_univ _)) $$ HB; iintro HB
  rw [load_lane 3 1 24 128 rfl rfl]
  iapply (wp_load 𝒱₀ (c : Thread nD τ) none Set.univ (m := Memref.whole cc0_stg0_0) (Finset.subset_univ _)) $$ HB; iintro HB
  rw [load_lane 4 1 32 128 rfl rfl]
  iapply (wp_load 𝒱₀ (c : Thread nD τ) none Set.univ (m := Memref.whole cc0_stg0_0) (Finset.subset_univ _)) $$ HB; iintro HB
  rw [load_tail 0 384 0 256 rfl]
  iapply (wp_load 𝒱₀ (c : Thread nD τ) none Set.univ (m := Memref.whole cc0_stg0_0) (Finset.subset_univ _)) $$ HB; iintro HB
  rw [load_tail 1 384 8 256 rfl]
  iapply (wp_load 𝒱₀ (c : Thread nD τ) none Set.univ (m := Memref.whole cc0_stg0_0) (Finset.subset_univ _)) $$ HB; iintro HB
  rw [load_tail 2 384 16 256 rfl]
  rw [same28, same29, same30, same31, same32, same33, same34, same35]
  rw [wp_ret]; imodintro
  iapply Hk
  isplitl [HB]; · iexact HB
  isplitl [HT]; · iexact HT
  iexact HK

set_option maxHeartbeats 1600000 in
/-- Part 3 of the kernel runs sweep 2 and loads the next chunk's columns. -/
theorem part3_run (c : Dev nD) (B : Buf (Elt F) (((c : Dev nD) : Thread nD τ).loc cc0_stg0_0)) (T : Buf (Elt F) (((c : Dev nD) : Thread nD τ).loc cc0_stg1_0)) (Q : _ → sProp 𝕄) :
    iprop((((c : Thread nD τ).loc cc0_stg0_0) ↦{fullShare} B) ∗ (((c : Thread nD τ).loc cc0_stg1_0) ↦{fullShare} T)
      ∗ (((c : Thread nD τ).loc cc0_scratch0) ↦{fullShare} (marks B T 1 : Buf (Elt F) (((c : Dev nD) : Thread nD τ).loc cc0_scratch0)))
      ∗ (((((c : Thread nD τ).loc cc0_stg0_0) ↦{fullShare} B) ∗ (((c : Thread nD τ).loc cc0_stg1_0) ↦{fullShare} T)
        ∗ (((c : Thread nD τ).loc cc0_scratch0) ↦{fullShare} (marks B T 2 : Buf (Elt F) (((c : Dev nD) : Thread nD τ).loc cc0_scratch0))))
        -∗ Q ⟨laneF B 0 2, laneF B 1 2, laneF B 2 2, laneF B 3 2, laneF B 4 2, tailF B 0 256 384, tailF B 1 256 384, tailF B 2 256 384⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (k0_pay15 (F := F)) (laneF B 0 1) (laneF B 1 1) (laneF B 2 1) (laneF B 3 1) (laneF B 4 1) (tailF B 0 384 256) (tailF B 1 384 256) (tailF B 2 384 256)) Q := by
  simp only [k0_part3_eq_skeleton]; unfold k0_part3_skel
  simp only [Prog.lift, Prog.bind_op, Prog.bind_ret, Prog.pure_eq_ret]
  iintro ⟨HB, HT, HK, Hk⟩
  iapply (wp_load 𝒱₀ (c : Thread nD τ) none Set.univ (m := Memref.whole cc0_stg0_0) (Finset.subset_univ _)) $$ HB; iintro HB
  rw [load_tail 3 384 24 256 rfl]
  iapply (wp_load 𝒱₀ (c : Thread nD τ) none Set.univ (m := Memref.whole cc0_stg0_0) (Finset.subset_univ _)) $$ HB; iintro HB
  rw [load_tail 4 384 32 256 rfl]
  iapply (wp_load 𝒱₀ (c : Thread nD τ) none Set.univ (m := Memref.whole cc0_scratch0) (Finset.subset_univ _)) $$ HK; iintro HK
  rw [load_part 1 128 rfl]
  rw [same36, same37, first_cursor2]
  iapply (wp_call_spec 𝒱₀ (c : Thread nD τ) none Set.univ (spec c B T 1 1024 (init 1 (marks B T 1))) 1024
    (fun u hu => nomatch hu) (loop2 c B T Set.univ 1024 (init 1 (marks B T 1)) (first_le _) (by omega)))
  rw [spec_apply]; unfold held
  isplitl [HT HK]
  · isplitl [HT]; · iexact HT
    iexact HK
  iintro ⟨HT, HK⟩
  iapply (wp_load 𝒱₀ (c : Thread nD τ) none Set.univ (m := Memref.whole cc0_scratch0) (Finset.subset_univ _)) $$ HK; iintro HK
  iapply (wp_store 𝒱₀ (c : Thread nD τ) none Set.univ (m := Memref.whole cc0_scratch0)
    (r := Rect.unit (s := S8x640) ![0, 128] S8x128.size inb_S8x640_S8x128_0_128) (Mk := Finset.univ) (Finset.subset_univ _)) $$ HK; iintro HK
  rw [same39]; erw [store_put 1 128 rfl, put_marks]
  iapply (wp_load 𝒱₀ (c : Thread nD τ) none Set.univ (m := Memref.whole cc0_stg0_0) (Finset.subset_univ _)) $$ HB; iintro HB
  rw [load_lane 0 2 0 256 rfl rfl]
  iapply (wp_load 𝒱₀ (c : Thread nD τ) none Set.univ (m := Memref.whole cc0_stg0_0) (Finset.subset_univ _)) $$ HB; iintro HB
  rw [load_lane 1 2 8 256 rfl rfl]
  iapply (wp_load 𝒱₀ (c : Thread nD τ) none Set.univ (m := Memref.whole cc0_stg0_0) (Finset.subset_univ _)) $$ HB; iintro HB
  rw [load_lane 2 2 16 256 rfl rfl]
  iapply (wp_load 𝒱₀ (c : Thread nD τ) none Set.univ (m := Memref.whole cc0_stg0_0) (Finset.subset_univ _)) $$ HB; iintro HB
  rw [load_lane 3 2 24 256 rfl rfl]
  iapply (wp_load 𝒱₀ (c : Thread nD τ) none Set.univ (m := Memref.whole cc0_stg0_0) (Finset.subset_univ _)) $$ HB; iintro HB
  rw [load_lane 4 2 32 256 rfl rfl]
  iapply (wp_load 𝒱₀ (c : Thread nD τ) none Set.univ (m := Memref.whole cc0_stg0_0) (Finset.subset_univ _)) $$ HB; iintro HB
  rw [load_tail 0 256 0 384 rfl]
  iapply (wp_load 𝒱₀ (c : Thread nD τ) none Set.univ (m := Memref.whole cc0_stg0_0) (Finset.subset_univ _)) $$ HB; iintro HB
  rw [load_tail 1 256 8 384 rfl]
  iapply (wp_load 𝒱₀ (c : Thread nD τ) none Set.univ (m := Memref.whole cc0_stg0_0) (Finset.subset_univ _)) $$ HB; iintro HB
  rw [load_tail 2 256 16 384 rfl]
  rw [same40, same41, same42, same43, same44, same45, same46, same47]
  rw [wp_ret]; imodintro
  iapply Hk
  isplitl [HB]; · iexact HB
  isplitl [HT]; · iexact HT
  iexact HK

set_option maxHeartbeats 1600000 in
/-- Part 4 of the kernel runs sweep 3 and loads the next chunk's columns. -/
theorem part4_run (c : Dev nD) (B : Buf (Elt F) (((c : Dev nD) : Thread nD τ).loc cc0_stg0_0)) (T : Buf (Elt F) (((c : Dev nD) : Thread nD τ).loc cc0_stg1_0)) (Q : _ → sProp 𝕄) :
    iprop((((c : Thread nD τ).loc cc0_stg0_0) ↦{fullShare} B) ∗ (((c : Thread nD τ).loc cc0_stg1_0) ↦{fullShare} T)
      ∗ (((c : Thread nD τ).loc cc0_scratch0) ↦{fullShare} (marks B T 2 : Buf (Elt F) (((c : Dev nD) : Thread nD τ).loc cc0_scratch0)))
      ∗ (((((c : Thread nD τ).loc cc0_stg0_0) ↦{fullShare} B) ∗ (((c : Thread nD τ).loc cc0_stg1_0) ↦{fullShare} T)
        ∗ (((c : Thread nD τ).loc cc0_scratch0) ↦{fullShare} (marks B T 3 : Buf (Elt F) (((c : Dev nD) : Thread nD τ).loc cc0_scratch0))))
        -∗ Q ⟨laneF B 0 3, laneF B 1 3, laneF B 2 3, laneF B 3 3, laneF B 4 3, tailF B 0 128 512, tailF B 1 128 512, tailF B 2 128 512⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (k0_pay15 (F := F)) (laneF B 0 2) (laneF B 1 2) (laneF B 2 2) (laneF B 3 2) (laneF B 4 2) (tailF B 0 256 384) (tailF B 1 256 384) (tailF B 2 256 384)) Q := by
  simp only [k0_part4_eq_skeleton]; unfold k0_part4_skel
  simp only [Prog.lift, Prog.bind_op, Prog.bind_ret, Prog.pure_eq_ret]
  iintro ⟨HB, HT, HK, Hk⟩
  iapply (wp_load 𝒱₀ (c : Thread nD τ) none Set.univ (m := Memref.whole cc0_stg0_0) (Finset.subset_univ _)) $$ HB; iintro HB
  rw [load_tail 3 256 24 384 rfl]
  iapply (wp_load 𝒱₀ (c : Thread nD τ) none Set.univ (m := Memref.whole cc0_stg0_0) (Finset.subset_univ _)) $$ HB; iintro HB
  rw [load_tail 4 256 32 384 rfl]
  iapply (wp_load 𝒱₀ (c : Thread nD τ) none Set.univ (m := Memref.whole cc0_scratch0) (Finset.subset_univ _)) $$ HK; iintro HK
  rw [load_part 2 256 rfl]
  rw [same48, same49, first_cursor3]
  iapply (wp_call_spec 𝒱₀ (c : Thread nD τ) none Set.univ (spec c B T 2 1024 (init 2 (marks B T 2))) 1024
    (fun u hu => nomatch hu) (loop3 c B T Set.univ 1024 (init 2 (marks B T 2)) (first_le _) (by omega)))
  rw [spec_apply]; unfold held
  isplitl [HT HK]
  · isplitl [HT]; · iexact HT
    iexact HK
  iintro ⟨HT, HK⟩
  iapply (wp_load 𝒱₀ (c : Thread nD τ) none Set.univ (m := Memref.whole cc0_scratch0) (Finset.subset_univ _)) $$ HK; iintro HK
  iapply (wp_store 𝒱₀ (c : Thread nD τ) none Set.univ (m := Memref.whole cc0_scratch0)
    (r := Rect.unit (s := S8x640) ![0, 256] S8x128.size inb_S8x640_S8x128_0_256) (Mk := Finset.univ) (Finset.subset_univ _)) $$ HK; iintro HK
  rw [same51]; erw [store_put 2 256 rfl, put_marks]
  iapply (wp_load 𝒱₀ (c : Thread nD τ) none Set.univ (m := Memref.whole cc0_stg0_0) (Finset.subset_univ _)) $$ HB; iintro HB
  rw [load_lane 0 3 0 384 rfl rfl]
  iapply (wp_load 𝒱₀ (c : Thread nD τ) none Set.univ (m := Memref.whole cc0_stg0_0) (Finset.subset_univ _)) $$ HB; iintro HB
  rw [load_lane 1 3 8 384 rfl rfl]
  iapply (wp_load 𝒱₀ (c : Thread nD τ) none Set.univ (m := Memref.whole cc0_stg0_0) (Finset.subset_univ _)) $$ HB; iintro HB
  rw [load_lane 2 3 16 384 rfl rfl]
  iapply (wp_load 𝒱₀ (c : Thread nD τ) none Set.univ (m := Memref.whole cc0_stg0_0) (Finset.subset_univ _)) $$ HB; iintro HB
  rw [load_lane 3 3 24 384 rfl rfl]
  iapply (wp_load 𝒱₀ (c : Thread nD τ) none Set.univ (m := Memref.whole cc0_stg0_0) (Finset.subset_univ _)) $$ HB; iintro HB
  rw [load_lane 4 3 32 384 rfl rfl]
  iapply (wp_load 𝒱₀ (c : Thread nD τ) none Set.univ (m := Memref.whole cc0_stg0_0) (Finset.subset_univ _)) $$ HB; iintro HB
  rw [load_tail 0 128 0 512 rfl]
  iapply (wp_load 𝒱₀ (c : Thread nD τ) none Set.univ (m := Memref.whole cc0_stg0_0) (Finset.subset_univ _)) $$ HB; iintro HB
  rw [load_tail 1 128 8 512 rfl]
  iapply (wp_load 𝒱₀ (c : Thread nD τ) none Set.univ (m := Memref.whole cc0_stg0_0) (Finset.subset_univ _)) $$ HB; iintro HB
  rw [load_tail 2 128 16 512 rfl]
  rw [same52, same53, same54, same55, same56, same57, same58, same59]
  rw [wp_ret]; imodintro
  iapply Hk
  isplitl [HB]; · iexact HB
  isplitl [HT]; · iexact HT
  iexact HK

set_option maxHeartbeats 1600000 in
/-- Part 5 of the kernel runs sweep 4 and loads the next chunk's columns. -/
theorem part5_run (c : Dev nD) (B : Buf (Elt F) (((c : Dev nD) : Thread nD τ).loc cc0_stg0_0)) (T : Buf (Elt F) (((c : Dev nD) : Thread nD τ).loc cc0_stg1_0)) (Q : _ → sProp 𝕄) :
    iprop((((c : Thread nD τ).loc cc0_stg0_0) ↦{fullShare} B) ∗ (((c : Thread nD τ).loc cc0_stg1_0) ↦{fullShare} T)
      ∗ (((c : Thread nD τ).loc cc0_scratch0) ↦{fullShare} (marks B T 3 : Buf (Elt F) (((c : Dev nD) : Thread nD τ).loc cc0_scratch0)))
      ∗ (((((c : Thread nD τ).loc cc0_stg0_0) ↦{fullShare} B) ∗ (((c : Thread nD τ).loc cc0_stg1_0) ↦{fullShare} T)
        ∗ (((c : Thread nD τ).loc cc0_scratch0) ↦{fullShare} (marks B T 4 : Buf (Elt F) (((c : Dev nD) : Thread nD τ).loc cc0_scratch0))))
        -∗ Q ⟨laneF B 0 4, laneF B 1 4, laneF B 2 4, laneF B 3 4, laneF B 4 4, part 4 (marks B T 4), k0_pay69 (F := F) (k0_pay15 (F := F)) (part 4 (marks B T 4))⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (k0_pay15 (F := F)) (laneF B 0 3) (laneF B 1 3) (laneF B 2 3) (laneF B 3 3) (laneF B 4 3) (tailF B 0 128 512) (tailF B 1 128 512) (tailF B 2 128 512)) Q := by
  simp only [k0_part5_eq_skeleton]; unfold k0_part5_skel
  simp only [Prog.lift, Prog.bind_op, Prog.bind_ret, Prog.pure_eq_ret]
  iintro ⟨HB, HT, HK, Hk⟩
  iapply (wp_load 𝒱₀ (c : Thread nD τ) none Set.univ (m := Memref.whole cc0_stg0_0) (Finset.subset_univ _)) $$ HB; iintro HB
  rw [load_tail 3 128 24 512 rfl]
  iapply (wp_load 𝒱₀ (c : Thread nD τ) none Set.univ (m := Memref.whole cc0_stg0_0) (Finset.subset_univ _)) $$ HB; iintro HB
  rw [load_tail 4 128 32 512 rfl]
  iapply (wp_load 𝒱₀ (c : Thread nD τ) none Set.univ (m := Memref.whole cc0_scratch0) (Finset.subset_univ _)) $$ HK; iintro HK
  rw [load_part 3 384 rfl]
  rw [same60, same61, first_cursor4]
  iapply (wp_call_spec 𝒱₀ (c : Thread nD τ) none Set.univ (spec c B T 3 1024 (init 3 (marks B T 3))) 1024
    (fun u hu => nomatch hu) (loop4 c B T Set.univ 1024 (init 3 (marks B T 3)) (first_le _) (by omega)))
  rw [spec_apply]; unfold held
  isplitl [HT HK]
  · isplitl [HT]; · iexact HT
    iexact HK
  iintro ⟨HT, HK⟩
  iapply (wp_load 𝒱₀ (c : Thread nD τ) none Set.univ (m := Memref.whole cc0_scratch0) (Finset.subset_univ _)) $$ HK; iintro HK
  iapply (wp_store 𝒱₀ (c : Thread nD τ) none Set.univ (m := Memref.whole cc0_scratch0)
    (r := Rect.unit (s := S8x640) ![0, 384] S8x128.size inb_S8x640_S8x128_0_384) (Mk := Finset.univ) (Finset.subset_univ _)) $$ HK; iintro HK
  rw [same63]; erw [store_put 3 384 rfl, put_marks]
  iapply (wp_load 𝒱₀ (c : Thread nD τ) none Set.univ (m := Memref.whole cc0_stg0_0) (Finset.subset_univ _)) $$ HB; iintro HB
  rw [load_lane 0 4 0 512 rfl rfl]
  iapply (wp_load 𝒱₀ (c : Thread nD τ) none Set.univ (m := Memref.whole cc0_stg0_0) (Finset.subset_univ _)) $$ HB; iintro HB
  rw [load_lane 1 4 8 512 rfl rfl]
  iapply (wp_load 𝒱₀ (c : Thread nD τ) none Set.univ (m := Memref.whole cc0_stg0_0) (Finset.subset_univ _)) $$ HB; iintro HB
  rw [load_lane 2 4 16 512 rfl rfl]
  iapply (wp_load 𝒱₀ (c : Thread nD τ) none Set.univ (m := Memref.whole cc0_stg0_0) (Finset.subset_univ _)) $$ HB; iintro HB
  rw [load_lane 3 4 24 512 rfl rfl]
  iapply (wp_load 𝒱₀ (c : Thread nD τ) none Set.univ (m := Memref.whole cc0_stg0_0) (Finset.subset_univ _)) $$ HB; iintro HB
  rw [load_lane 4 4 32 512 rfl rfl]
  iapply (wp_load 𝒱₀ (c : Thread nD τ) none Set.univ (m := Memref.whole cc0_scratch0) (Finset.subset_univ _)) $$ HK; iintro HK
  rw [load_part 4 512 rfl]
  rw [same64, same65, same66, same67, same68]
  rw [wp_ret]; imodintro
  iapply Hk
  isplitl [HB]; · iexact HB
  isplitl [HT]; · iexact HT
  iexact HK

end Cert.KernelIdeal.Sweep
-- ==== Proof.KernelIdealBody.lean ====
module

public import proofs.«01_k».proof.Proof.KernelIdealParts

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [CursorOps F]

local notation "𝕄" => MT nD τ sig Unit (Elt F) ℕ (UR nD τ) ℕ

set_option maxHeartbeats 1600000 in
/-- The kernel body: from the packed boxes `B` and the flat table `T` the result buffer takes `out B T`; the marks are scratch. -/
theorem body_run (c : Dev nD) (B : Buf (Elt F) (((c : Dev nD) : Thread nD τ).loc cc0_stg0_0)) (T : Buf (Elt F) (((c : Dev nD) : Thread nD τ).loc cc0_stg1_0)) (Q : PUnit → sProp 𝕄) :
    iprop((((c : Thread nD τ).loc cc0_stg0_0) ↦{fullShare} B) ∗ (((c : Thread nD τ).loc cc0_stg1_0) ↦{fullShare} T)
      ∗ (∃ f : Buf (Elt F) (((c : Dev nD) : Thread nD τ).loc cc0_scratch0), (((c : Thread nD τ).loc cc0_scratch0) ↦{fullShare} f))
      ∗ (∃ f : Buf (Elt F) (((c : Dev nD) : Thread nD τ).loc cc0_stg2_0), (((c : Thread nD τ).loc cc0_stg2_0) ↦{fullShare} f))
      ∗ (((((c : Thread nD τ).loc cc0_stg0_0) ↦{fullShare} B) ∗ (((c : Thread nD τ).loc cc0_stg1_0) ↦{fullShare} T)
        ∗ (∃ f : Buf (Elt F) (((c : Dev nD) : Thread nD τ).loc cc0_scratch0), (((c : Thread nD τ).loc cc0_scratch0) ↦{fullShare} f))
        ∗ (((c : Thread nD τ).loc cc0_stg2_0) ↦{fullShare} (out B T : Buf (Elt F) (((c : Dev nD) : Thread nD τ).loc cc0_stg2_0))))
        -∗ Q ⟨⟩))
      ⊢ wp frame (wpE (defs₀ (F := F)) 𝒱₀ (c : Thread nD τ) none) Set.univ
          (cc0__nms_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)) Q := by
  simp only [cc0__nms_body_eq_skeleton]; unfold cc0__nms_body_skel
  iintro ⟨HB, HT, HK, ⟨%fo, HO⟩, Hk⟩
  rw [wp_bind]
  iapply (part1_run c B T _)
  isplitl [HB]; · iexact HB
  isplitl [HT]; · iexact HT
  isplitl [HK]; · iexact HK
  iintro ⟨HB, HT, HK⟩
  dsimp only
  rw [wp_bind]
  iapply (part2_run c B T _)
  isplitl [HB]; · iexact HB
  isplitl [HT]; · iexact HT
  isplitl [HK]; · iexact HK
  iintro ⟨HB, HT, HK⟩
  dsimp only
  rw [wp_bind]
  iapply (part3_run c B T _)
  isplitl [HB]; · iexact HB
  isplitl [HT]; · iexact HT
  isplitl [HK]; · iexact HK
  iintro ⟨HB, HT, HK⟩
  dsimp only
  rw [wp_bind]
  iapply (part4_run c B T _)
  isplitl [HB]; · iexact HB
  isplitl [HT]; · iexact HT
  isplitl [HK]; · iexact HK
  iintro ⟨HB, HT, HK⟩
  dsimp only
  rw [wp_bind]
  iapply (part5_run c B T _)
  isplitl [HB]; · iexact HB
  isplitl [HT]; · iexact HT
  isplitl [HK]; · iexact HK
  iintro ⟨HB, HT, HK⟩
  dsimp only
  simp only [Prog.lift, Prog.bind_op, Prog.bind_ret, Prog.pure_eq_ret]
  rw [first_cursor5]
  iapply (wp_call_spec 𝒱₀ (c : Thread nD τ) none Set.univ (spec c B T 4 1024 (init 4 (marks B T 4))) 1024
    (fun u hu => nomatch hu) (loop5 c B T Set.univ 1024 (init 4 (marks B T 4)) (first_le _) (by omega)))
  rw [spec_apply]; unfold held
  isplitl [HT HK]
  · isplitl [HT]; · iexact HT
    iexact HK
  iintro ⟨HT, HK⟩
  iapply (wp_load 𝒱₀ (c : Thread nD τ) none Set.univ (m := Memref.whole cc0_scratch0) (Finset.subset_univ _)) $$ HK; iintro HK
  iapply (wp_store 𝒱₀ (c : Thread nD τ) none Set.univ (m := Memref.whole cc0_scratch0)
    (r := Rect.unit (s := S8x640) ![0, 512] S8x128.size inb_S8x640_S8x128_0_512) (Mk := Finset.univ) (Finset.subset_univ _)) $$ HK; iintro HK
  rw [same2]; erw [store_put 4 512 rfl, put_marks]
  iapply (wp_load 𝒱₀ (c : Thread nD τ) none Set.univ (m := Memref.whole cc0_scratch0) (Finset.subset_univ _)) $$ HK; iintro HK
  rw [load_marks]
  iapply (wp_load 𝒱₀ (c : Thread nD τ) none Set.univ (m := Memref.whole cc0_stg2_0) (Finset.subset_univ _)) $$ HO; iintro HO
  iapply (wp_store 𝒱₀ (c : Thread nD τ) none Set.univ (m := Memref.whole cc0_stg2_0)
    (r := Rect.unit (s := S8x640) ![0, 0] S8x640.size inb_S8x640_S8x640_0_0) (Mk := Finset.univ) (Finset.subset_univ _)) $$ HO; iintro HO
  rw [out_pay]; erw [store_out]
  rw [wp_ret]; imodintro
  iapply Hk
  isplitl [HB]; · iexact HB
  isplitl [HT]; · iexact HT
  isplitl [HK]
  · iexists _; iexact HK
  iexact HO

end Cert.KernelIdeal.Sweep
-- ==== Proof.KernelIdealRun.lean ====
module

public import proofs.«01_k».proof.Proof.KernelIdealBody
public import proofs.«01_k».proof.Proof.Gen.KernelIdeal.Points
public import proofs.«01_k».proof.Proof.Gen.KernelIdeal.Launch
public import Idealize.ShloMosaic.Lib.Pipeline.FrameSuffix
public import Idealize.ShloMosaic.Lib.Pipeline.ValueKit.Geometry

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [CursorOps F]

local notation "𝕄" => MT nD τ sig Unit (Elt F) ℕ (UR nD τ) ℕ

variable (m : (ℓ : Loc nD τ sig) → Buf (Elt F) ℓ)

/-- The host stretches before the region, in order. -/
abbrev pre : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16]

/-- Core `c`'s buffers when the region is entered. -/
def V (c : Dev nD) : Valuation τ sig (Elt F) := StableHlo.after (pre (F := F)).flatten fun b => m (c, b)

/-- The table of columns, as the region finds it. -/
abbrev tabB (c : Dev nD) : S48x640.Idx → Elt F .f32 := V m c (Proc.devRef .tc main_v59)
/-- The flat table, as the region finds it. -/
abbrev tabT (c : Dev nD) : S25600.Idx → Elt F .f32 := V m c (Proc.devRef .tc main_v67)

/-- The proof data on core `c`: the tables as fetched, the result the kept scores. -/
def dats (_ : Fin 1) (c : Dev nD) : Dat τ (Elt F) Unit ℕ (UR nD τ) ℕ (cfg0 (F := F)) c where
  A w := V m c (Pipeline.arrRef spec0 w)
  after w _ := match w with
    | ⟨0, _⟩ => (tabB m c : S48x640.Idx → Elt F .f32)
    | ⟨1, _⟩ => (tabT m c : S25600.Idx → Elt F .f32)
    | ⟨2, _⟩ => (out (tabB m c) (tabT m c) : S8x640.Idx → Elt F .f32)
  Φ _ := Pipeline.ΦA spec0 c
  q _ := fullShare
  owed _ := 0

/-- An array at the call holds what the host operations before it left. -/
theorem A_eq (c : Dev nD) (w : Fin (cfg0 (F := F)).W) : (dats m 0 c).A w = V m c (Pipeline.arrRef spec0 w) := by
  dsimp only [dats]

/-- Every window's block is its whole array: an index of the block is the array's. -/
theorem emb_0 (i : S48x640.Idx) : (((cfg0 (F := F)).win 0).blk t0_0).view.emb i = i :=
  funext fun d => Fin.ext ((ValueKit.rect_emb_unit_val _ _ _ i d).trans (Nat.add_eq_right.mpr (Nat.zero_mul _)))
/-- The one block of the flat table is the whole table. -/
theorem emb_1 (i : S25600.Idx) : (((cfg0 (F := F)).win 1).blk t0_0).view.emb i = i :=
  funext fun d => Fin.ext ((ValueKit.rect_emb_unit_val _ _ _ i d).trans (Nat.add_eq_right.mpr (Nat.zero_mul _)))
/-- The one block of the result is the whole result. -/
theorem emb_2 (i : S8x640.Idx) : (((cfg0 (F := F)).win 2).blk t0_0).view.emb i = i :=
  funext fun d => Fin.ext ((ValueKit.rect_emb_unit_val _ _ _ i d).trans (Nat.add_eq_right.mpr (Nat.zero_mul _)))

/-- The block of the first table is the table; -/
theorem blk_0 (f : S48x640.Idx → Elt F .f32) : (((cfg0 (F := F)).win 0).blk t0_0).view.read (Elt F) f = f :=
  funext fun i => congrArg f (emb_0 i)
/-- of the flat table, the flat table; -/
theorem blk_1 (f : S25600.Idx → Elt F .f32) : (((cfg0 (F := F)).win 1).blk t0_0).view.read (Elt F) f = f :=
  funext fun i => congrArg f (emb_1 i)
/-- of the result, the result. -/
theorem blk_2 (f : S8x640.Idx → Elt F .f32) : (((cfg0 (F := F)).win 2).blk t0_0).view.read (Elt F) f = f :=
  funext fun i => congrArg f (emb_2 i)

/-- The body finds the first table in its buffer, -/
theorem before_0 (c : Dev nD) (d) : (dats m 0 c).before 0 t0_0 d = tabB m c := by
  unfold Dat.before
  rw [if_pos (fetch0_0 t0_0)]
  exact blk_0 (tabB m c)
/-- and the flat one in its own. -/
theorem before_1 (c : Dev nD) (d) : (dats m 0 c).before 1 t0_0 d = tabT m c := by
  unfold Dat.before
  rw [if_pos (fetch0_1 t0_0)]
  exact blk_1 (tabT m c)

/-- After the run the result array holds the kept scores. -/
theorem arrAt_2 (c : Dev nD) : (dats m 0 c).arrAt 2 (cfg0 (F := F)).N = out (tabB m c) (tabT m c) := by
  refine (dats m 0 c).arrAt_eq_of_cover 2 (out (tabB m c) (tabT m c)) (fun t _ => ?_) (fun i => ⟨t0_0, flush0_2 t0_0, ?_⟩)
  · obtain rfl := fin_N0 t
    exact (blk_2 _).symm
  · have h := (((cfg0 (F := F)).win 2).blk t0_0).view.emb_mem_set i
    exact (emb_2 (F := F) i) ▸ h

/-- The body answers the pipeline: the staging buffers and the scratch taken apart, the body's triple applied, its
    post put together again. -/
theorem body_obligation (c : Dev nD) : BodyObligation (dats m 0 c) (defs₀ (F := F)) 𝒱₀ () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Pipeline.ΦA
  rw [scopedRest0_eq]
  iintro ⟨⟨Hs, Hr⟩, HO, ⟨%d0, %f0, %hf0, H0⟩, ⟨%d1, %f1, %hf1, H1⟩, ⟨%d2, %f2, %hf2, H2⟩⟩
  obtain rfl := hf0.trans (before_0 m c d0)
  obtain rfl := hf1.trans (before_1 m c d1)
  iapply (body_run c (tabB m c) (tabT m c))
  isplitl [H0]; · iexact H0
  isplitl [H1]; · iexact H1
  isplitl [Hs]; · iexact Hs
  isplitl [H2]; · iexists f2; iexact H2
  iintro ⟨H0, H1, Hs, H2⟩
  isplitl [Hs Hr]
  · isplitl [Hs]
    · iexact Hs
    · iexact Hr
  isplitl [HO]; · iexact HO
  isplitl [H0]
  · iexists (tabB m c); isplitr; · ipureintro; rfl
    iexact H0
  isplitl [H1]
  · iexists (tabT m c); isplitr; · ipureintro; rfl
    iexact H1
  iexists (out (tabB m c) (tabT m c)); isplitr; · ipureintro; rfl
  iexact H2

end Cert.KernelIdeal.Sweep
-- ==== Proof.KernelIdealLaunch.lean ====
module

public import proofs.«01_k».proof.Proof.KernelIdealRun

@[expose] public section

set_option maxRecDepth 16384

noncomputable section

namespace Cert.KernelIdeal.Sweep

open Cert.KernelIdeal Cert.KernelIdeal.Gen Proof.Cur
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [CursorOps F]

local notation "𝕄" => MT nD τ sig Unit (Elt F) ℕ (UR nD τ) ℕ

variable (m : (ℓ : Loc nD τ sig) → Buf (Elt F) ℓ)

/-- No host operation before the region writes an argument; -/
theorem pre_arg0 : (pre (F := F)).Forall fun ops => ops.Forall fun op => Proc.devRef .tc main_arg0 ∉ op.writes := by
  simp only [pre, List.Forall]
  repeat' apply And.intro
  all_goals exact fun hm => StableHlo.devRef_ne_of_ne (by decide) (Finset.mem_singleton.mp hm)
/-- No host operation before the call writes the scores. -/
theorem pre_arg1 : (pre (F := F)).Forall fun ops => ops.Forall fun op => Proc.devRef .tc main_arg1 ∉ op.writes := by
  simp only [pre, List.Forall]
  repeat' apply And.intro
  all_goals exact fun hm => StableHlo.devRef_ne_of_ne (by decide) (Finset.mem_singleton.mp hm)

/-- nor one after it. -/
theorem post_arg0 : (hostOps1 (F := F)).Forall fun op => Proc.devRef .tc main_arg0 ∉ op.writes := by
  simp only [List.Forall]
  repeat' apply And.intro
  all_goals exact fun hm => StableHlo.devRef_ne_of_ne (by decide) (Finset.mem_singleton.mp hm)
/-- None after the call does. -/
theorem post_arg1 : (hostOps1 (F := F)).Forall fun op => Proc.devRef .tc main_arg1 ∉ op.writes := by
  simp only [List.Forall]
  repeat' apply And.intro
  all_goals exact fun hm => StableHlo.devRef_ne_of_ne (by decide) (Finset.mem_singleton.mp hm)
/-- Nor does one after it write an array of the region. -/
theorem post_arrays : ∀ w, (hostOps1 (F := F)).Forall fun op => Proc.devRef .tc (Pipeline.arrRef spec0 w) ∉ op.writes
  | 0 | 1 | 2 => by
    simp only [List.Forall]
    repeat' apply And.intro
    all_goals exact fun hm => StableHlo.devRef_ne_of_ne (by decide) (Finset.mem_singleton.mp hm)

/-- What no stretch writes, no operation of all the stretches writes. -/
theorem mem_flatten_not (b : DevRef τ sig) (opss : List (List (HloOp τ sig (Elt F))))
    (h : opss.Forall fun ops => ops.Forall fun op => b ∉ op.writes) : ∀ op ∈ opss.flatten, b ∉ op.writes := fun op hop => by
  obtain ⟨ops, ho, hop⟩ := List.mem_flatten.mp hop
  exact List.forall_iff_forall_mem.mp (List.forall_iff_forall_mem.mp h ops ho) op hop

/-- The region is entered with the arguments as launched. -/
theorem V_arg0 (c : Dev nD) : V m c (Proc.devRef .tc main_arg0) = m ((c : Thread nD τ).loc main_arg0) :=
  StableHlo.after_of_forall_not_mem _ _ (mem_flatten_not _ _ pre_arg0)
/-- The scores are at the call as at the launch. -/
theorem V_arg1 (c : Dev nD) : V m c (Proc.devRef .tc main_arg1) = m ((c : Thread nD τ).loc main_arg1) :=
  StableHlo.after_of_forall_not_mem _ _ (mem_flatten_not _ _ pre_arg1)

/-- What the lines after the region start from: the buffers at the region's entry, its arrays as it left them. -/
def W (c : Dev nD) : Valuation τ sig (Elt F) :=
  Pipeline.withArrays (cfg0 (F := F)).spec c (V m c) fun w => (dats m 0 c).arrAt w (cfg0 (F := F)).N

/-- The result array at the region's exit holds the kept scores; -/
theorem W_v68 (c : Dev nD) : W m c (Proc.devRef .tc main_v68) = out (tabB m c) (tabT m c) :=
  (Pipeline.withArrays_arr (cfg0 (F := F)).spec winFacts0.arr_inj c (V m c) _ 2).trans (arrAt_2 m c)
/-- a buffer that is no array of the region is as at its entry. -/
theorem W_of_ne (c : Dev nD) (b : Ref sig .tc) (hb : ∀ w, Pipeline.arrRef spec0 w ≠ b) :
    W m c (Proc.devRef .tc b) = V m c (Proc.devRef .tc b) :=
  Pipeline.withArrays_of_ne (cfg0 (F := F)).spec c (V m c) _ b hb

/-- The kernel's result: what the lines after the region leave in its buffer. -/
def result (c : Dev nD) : S5000.Idx → Elt F .f32 := StableHlo.after (hostOps1 (F := F)) (W m c) (Proc.devRef .tc main_v80)

/-- The run's post on core `c`: the result, and both arguments as launched. -/
def Post (r : PUnit × MemSt nD τ sig (Elt F)) : Prop :=
  (∀ c : Dev nD, r.2.mem ((c : Thread nD τ).loc main_v80) = result m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The frame post of the library, read at the result and the arguments. -/
theorem post_of_frame (r : PUnit × MemSt nD τ sig (Elt F))
    (h : Pipeline.FramePost cfgs (dats m) 0 (Pipeline.afterTail₀ cfgs (dats m) 0 (V m) [hostOps1]) r ∧ r.2.sem = fun _ => 0) :
    Post m r := by
  refine ⟨fun c => ⟨?_, ?_, ?_⟩, h.2⟩
  · exact ((h.1 c).2 main_v80 (by decide : main_v80 ∈ Pipeline.restRefs sig spec0)).trans rfl
  · refine ((h.1 c).2 main_arg0 (by decide : main_arg0 ∈ Pipeline.restRefs sig spec0)).trans ((StableHlo.after_of_forall_not_mem _ _ (mem_flatten_not _ _ ?_)).trans
      ((W_of_ne m c main_arg0 (by decide)).trans (V_arg0 m c)))
    exact post_arg0
  · refine ((h.1 c).2 main_arg1 (by decide : main_arg1 ∈ Pipeline.restRefs sig spec0)).trans ((StableHlo.after_of_forall_not_mem _ _ (mem_flatten_not _ _ ?_)).trans
      ((W_of_ne m c main_arg1 (by decide)).trans (V_arg1 m c)))
    exact post_arg1

/-- The host operations before the call touch only host buffers. -/
theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩

/-- The host operations before the call claim no new buffer. -/
theorem pre_fresh : (pre (F := F)).Forall fun ops => ops.Forall fun op => op.fresh = ∅ := by
  simp only [pre, List.Forall]
  repeat' apply And.intro
  all_goals rfl

/-- Nor do those after it. -/
theorem post_fresh : (hostOps1 (F := F)).Forall fun op => op.fresh = ∅ := by
  simp only [List.Forall]
  repeat' apply And.intro
  all_goals rfl

/-- The host operations after the call touch only buffers that the call gives back. -/
theorem post_sub : ∀ op ∈ (hostOps1 (F := F)), op.bufs ⊆ Pipeline.tailRefs sig Pipeline.Prefetch.none (cfg0 (F := F)).spec := by
  intro op hop
  rw [Pipeline.tailRefs_none spec0 (by decide : ∀ w : Fin 3, (Pipeline.arrRef spec0 w).isScoped = false)]
  exact Pipeline.sub_ucRefs op (List.forall_iff_forall_mem.mp hostOps1_sub op hop)

/-- The run: from any memory with every counter at zero, every fair execution ends, the result as computed, both
    arguments untouched and every counter at zero. -/
theorem run_main (g : Dev nD → PrngReg) : θ_run (defs (F := F)) (onTc (τ := τ) (main (F := F))) (s₀ m g) (Post m) :=
  Pipeline.θ_run_frame_around cfgs (dats m) 0 launch0 defs₀ 𝒱₀ m g main
    (fun c => (body_obligation m c).loose) (fun c => (dats m 0 c).share_full fun _ => rfl) (fun _ _ => rfl)
    (V m) [hostOps1]
    (fun ops ho => by obtain rfl := List.mem_singleton.mp ho; exact post_sub)
    (fun ops ho => by obtain rfl := List.mem_singleton.mp ho; exact List.forall_iff_forall_mem.mp post_fresh)
    (fun ops ho op hop w => by obtain rfl := List.mem_singleton.mp ho; exact List.forall_iff_forall_mem.mp (post_arrays w) op hop)
    (Pipeline.hmain_around cfgs 0 defs₀ 𝒱₀ m main pre [hostOps1] pre_sub pre_fresh main_chain)
    (fun c w => A_eq m c w) (fun _ _ => rfl) (Post m) (post_of_frame m)

end Cert.KernelIdeal.Sweep
-- ==== Proof.Tables.lean ====
module

public import proofs.«01_k».proof.Proof.KernelIdealLaunch
public import Idealize.ShloMosaic.Lib.StableHlo.RunRead

@[expose] public section

set_option maxRecDepth 16384

noncomputable section

namespace Cert.KernelIdeal.Sweep

open Cert.KernelIdeal Cert.KernelIdeal.Gen
open Idealize.ShloMosaic Idealize.ShloMosaic.StableHlo
open Idealize.ShloMosaic.TcCoe Idealize.ShloMosaic.Tactic

variable {F : FTy → Type} [FloatOps F]

/-- The stretches that pad the columns and lay them out as tables. -/
abbrev lay : List (HloOp τ sig (Elt F)) :=
  [hostOps0_3, hostOps0_4, hostOps0_5, hostOps0_6, hostOps0_7, hostOps0_8, hostOps0_9, hostOps0_10, hostOps0_11, hostOps0_12,
    hostOps0_13, hostOps0_14, hostOps0_15, hostOps0_16].flatten

/-- A column with 120 zeros after it. -/
def padded (x : S5000.Idx → Elt F .f32) (v : S_.Idx → Elt F .f32) : S5120.Idx → Elt F .f32 :=
  pad S5120 ![0] ![120] ![0] x v pads_S5000_S5120_01200 h_S_

/-- A padded column laid out as eight rows of five blocks of 128. -/
def tiled (x : S5120.Idx → Elt F .f32) : S8x640.Idx → Elt F .f32 :=
  shapeCast S8x640 (transpose S8x5x128 [1, 0, 2] (shapeCast S5x8x128 x shapeCasts_S5120_S5x8x128) transposes_S5x8x128_S8x5x128_1_0_2)
    shapeCasts_S8x5x128_S8x640

/-- The pad's filler: the integer zero as a float. -/
def filler : S_.Idx → Elt F .f32 := sitofp .f32 (constantI S_ 32 0#32)

/-- The first field: column 0, padded and tiled. -/
theorem lay_v38 (X : Valuation τ sig (Elt F)) :
    upto lay X 35 (Proc.devRef .tc main_v38) = tiled (padded (X (Proc.devRef .tc main_v28)) (sitofp .f32 (X (Proc.devRef .tc main_c_3)))) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
  rfl
/-- The second field: column 1. -/
theorem lay_v42 (X : Valuation τ sig (Elt F)) :
    upto lay X 35 (Proc.devRef .tc main_v42) = tiled (padded (X (Proc.devRef .tc main_v30)) filler) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
  rfl
/-- The third field: column 2. -/
theorem lay_v46 (X : Valuation τ sig (Elt F)) :
    upto lay X 35 (Proc.devRef .tc main_v46) = tiled (padded (X (Proc.devRef .tc main_v32)) filler) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
  rfl
/-- The fourth field: column 3. -/
theorem lay_v50 (X : Valuation τ sig (Elt F)) :
    upto lay X 35 (Proc.devRef .tc main_v50) = tiled (padded (X (Proc.devRef .tc main_v34)) filler) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
  rfl
/-- The fifth field: the areas. -/
theorem lay_v54 (X : Valuation τ sig (Elt F)) :
    upto lay X 35 (Proc.devRef .tc main_v54) = tiled (padded (X (Proc.devRef .tc main_v26)) filler) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
  rfl
/-- The sixth field: the scores. -/
theorem lay_v58 (X : Valuation τ sig (Elt F)) :
    upto lay X 35 (Proc.devRef .tc main_v58) = tiled (padded (X (Proc.devRef .tc main_v15)) filler) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
  rfl

/-- The table of columns: the six tiled columns, one below the other. -/
theorem lay_v59 (X : Valuation τ sig (Elt F)) : after lay X (Proc.devRef .tc main_v59) =
    concatenate S48x640 0 [⟨S8x640, upto lay X 35 (Proc.devRef .tc main_v38)⟩, ⟨S8x640, upto lay X 35 (Proc.devRef .tc main_v42)⟩,
      ⟨S8x640, upto lay X 35 (Proc.devRef .tc main_v46)⟩, ⟨S8x640, upto lay X 35 (Proc.devRef .tc main_v50)⟩,
      ⟨S8x640, upto lay X 35 (Proc.devRef .tc main_v54)⟩, ⟨S8x640, upto lay X 35 (Proc.devRef .tc main_v58)⟩]
      concatenates_S8x640_S8x640_S8x640_S8x640_S8x640_S8x640_S48x640_d0 :=
  (after_last_write (i := 35) [main_v60, main_v61, main_v62, main_v63, main_v64, main_v65, main_c_9, main_call7_v0, main_v66, main_v67]
    rfl rfl (by decide) X).trans ((nary_result ..).trans rfl)

/-- The five columns side by side. -/
theorem lay_v65 (X : Valuation τ sig (Elt F)) : upto lay X 43 (Proc.devRef .tc main_v65) =
    concatenate S5000x5 1 [⟨S5000x1, upto lay X 41 (Proc.devRef .tc main_v60)⟩, ⟨S5000x1, upto lay X 41 (Proc.devRef .tc main_v61)⟩,
      ⟨S5000x1, upto lay X 41 (Proc.devRef .tc main_v62)⟩, ⟨S5000x1, upto lay X 41 (Proc.devRef .tc main_v63)⟩,
      ⟨S5000x1, upto lay X 41 (Proc.devRef .tc main_v64)⟩]
      concatenates_S5000x1_S5000x1_S5000x1_S5000x1_S5000x1_S5000x5_d1 :=
  (upto_last_write (i := 41) [main_c_9] rfl rfl (by decide) X).trans ((nary_result ..).trans rfl)

/-- The flat table's first column: column 0, made one wide. -/
theorem lay_v60 (X : Valuation τ sig (Elt F)) : upto lay X 41 (Proc.devRef .tc main_v60)
    = broadcastInDim S5000x1 ![0] bcast_S5000_S5000x1_0 (X (Proc.devRef .tc main_v28)) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
/-- Its second: column 1. -/
theorem lay_v61 (X : Valuation τ sig (Elt F)) : upto lay X 41 (Proc.devRef .tc main_v61)
    = broadcastInDim S5000x1 ![0] bcast_S5000_S5000x1_0 (X (Proc.devRef .tc main_v30)) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
/-- Its third: column 2. -/
theorem lay_v62 (X : Valuation τ sig (Elt F)) : upto lay X 41 (Proc.devRef .tc main_v62)
    = broadcastInDim S5000x1 ![0] bcast_S5000_S5000x1_0 (X (Proc.devRef .tc main_v32)) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
/-- Its fourth: column 3. -/
theorem lay_v63 (X : Valuation τ sig (Elt F)) : upto lay X 41 (Proc.devRef .tc main_v63)
    = broadcastInDim S5000x1 ![0] bcast_S5000_S5000x1_0 (X (Proc.devRef .tc main_v34)) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp
/-- Its fifth: the areas. -/
theorem lay_v64 (X : Valuation τ sig (Elt F)) : upto lay X 41 (Proc.devRef .tc main_v64)
    = broadcastInDim S5000x1 ![0] bcast_S5000_S5000x1_0 (X (Proc.devRef .tc main_v26)) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp

/-- The last two stretches: the pad and the reading in rows. -/
theorem tail_v67 (Y : Valuation τ sig (Elt F)) : after (hostOps0_15 ++ hostOps0_16) Y (Proc.devRef .tc main_v67) =
    shapeCast S25600 (pad S5120x5 ![0, 0] ![120, 0] ![0, 0] (Y (Proc.devRef .tc main_v65)) (sitofp .f32 (Y (Proc.devRef .tc main_c_9)))
      pads_S5000x5_S5120x5_01200_000 h_S_) shapeCasts_S5120x5_S25600 := by
  simp only [hostOps0_15, hostOps0_16, List.cons_append, List.nil_append]
  after_reads_simp
  rfl

/-- The flat table: the five columns side by side, padded and read in rows. -/
theorem lay_v67 (X : Valuation τ sig (Elt F)) : after lay X (Proc.devRef .tc main_v67) =
    shapeCast S25600 (pad S5120x5 ![0, 0] ![120, 0] ![0, 0] (upto lay X 43 (Proc.devRef .tc main_v65)) filler
      pads_S5000x5_S5120x5_01200_000 h_S_) shapeCasts_S5120x5_S25600 := by
  have e : after lay X = after (hostOps0_15 ++ hostOps0_16) (upto lay X 43) := by
    rw [upto, ← Idealize.ShloMosaic.StableHlo.after_append]
    rfl
  have h3 : upto lay X 43 (Proc.devRef .tc main_c_9) = constantI S_ 32 0#32 :=
    (upto_last_write (i := 42) [] rfl rfl (by decide) X).trans (nullary_result ..)
  rw [e, tail_v67, h3]
  rfl

/-- The layout leaves the order as it is. -/
theorem lay_v1 (X : Valuation τ sig (Elt F)) : after lay X (Proc.devRef .tc main_v1) = X (Proc.devRef .tc main_v1) := by
  simp only [lay, List.flatten_cons, List.flatten_nil, hostOps0_3, hostOps0_4, hostOps0_5, hostOps0_6, hostOps0_7, hostOps0_8,
    hostOps0_9, hostOps0_10, hostOps0_11, hostOps0_12, hostOps0_13, hostOps0_14, hostOps0_15, hostOps0_16, List.cons_append, List.nil_append, List.append_nil]
  after_reads_simp

end Cert.KernelIdeal.Sweep
-- ==== Proof.Sorted.lean ====
module

public import proofs.«01_k».proof.Proof.Tables

@[expose] public section

set_option maxRecDepth 16384

noncomputable section

namespace Cert.KernelIdeal.Sweep

open Cert.KernelIdeal Cert.KernelIdeal.Gen
open Idealize.ShloMosaic Idealize.ShloMosaic.StableHlo
open Idealize.ShloMosaic.TcCoe Idealize.ShloMosaic.Tactic

variable {F : FTy → Type} [FloatOps F]

/-! ## The boxes in the order of their scores, as both programs compute them -/

/-- The positions of the scores, highest first. -/
def order (s : S5000.Idx → Elt F .f32) : S5000.Idx → Elt F .i32 :=
  (Host.sort2 S5000 0 comparator_f32_i32_d0 (Host.negf s) (iotaInDim S5000 32 0)).2

/-- Positions as a column, a negative one counted from the end. -/
def column (o : S5000.Idx → Elt F .i32) : S5000x1.Idx → Elt F .i32 :=
  broadcastInDim S5000x1 ![0] bcast_S5000_S5000x1_0
    (select (cmpi .slt o (broadcastInDim S5000 ![] bcast_S_S5000 (constantI S_ 32 0#32)))
      (addi o (broadcastInDim S5000 ![] bcast_S_S5000 (constantI S_ 32 5000#32))) o)

/-- The boxes in that order, -/
def boxes (b : S5000x4.Idx → Elt F .f32) (s : S5000.Idx → Elt F .f32) : S5000x4.Idx → Elt F .f32 :=
  Host.gather gather_S5000x4_S5000x1_S5000x4_1_0_n_n_0_1_14 b (column (order s))
/-- and their scores. -/
def scores (s : S5000.Idx → Elt F .f32) : S5000.Idx → Elt F .f32 :=
  Host.gather gather_S5000_S5000x1_S5000_n_0_n_n_0_1_1 s (column (order s))

/-- The four columns of the boxes, -/
def col0 (q : S5000x4.Idx → Elt F .f32) : S5000.Idx → Elt F .f32 :=
  shapeCast S5000 (extractStridedSlice S5000x1 ![0, 0] q slices_S5000x4_S5000x1_0_0) shapeCasts_S5000x1_S5000
def col1 (q : S5000x4.Idx → Elt F .f32) : S5000.Idx → Elt F .f32 :=
  shapeCast S5000 (extractStridedSlice S5000x1 ![0, 1] q slices_S5000x4_S5000x1_0_1) shapeCasts_S5000x1_S5000
def col2 (q : S5000x4.Idx → Elt F .f32) : S5000.Idx → Elt F .f32 :=
  shapeCast S5000 (extractStridedSlice S5000x1 ![0, 2] q slices_S5000x4_S5000x1_0_2) shapeCasts_S5000x1_S5000
def col3 (q : S5000x4.Idx → Elt F .f32) : S5000.Idx → Elt F .f32 :=
  shapeCast S5000 (extractStridedSlice S5000x1 ![0, 3] q slices_S5000x4_S5000x1_0_3) shapeCasts_S5000x1_S5000
/-- and their areas. -/
def areas (q : S5000x4.Idx → Elt F .f32) : S5000.Idx → Elt F .f32 :=
  mulf (subf (col2 q) (col0 q)) (subf (col3 q) (col1 q))

/-- Values put back at the positions they came from. -/
def putBack (s v : S5000.Idx → Elt F .f32) : S5000.Idx → Elt F .f32 :=
  Host.scatter scatter_S5000_S5000x1_S5000_n_0_0_1 (fun _ b => b)
    (broadcastInDim S5000 ![] bcast_S_S5000 (constant S_ .f32 0x00000000#32)) (column (order s)) v

/-- The stretches that sort the boxes. -/
abbrev srt : List (HloOp τ sig (Elt F)) := hostOps0 ++ hostOps0_1 ++ hostOps0_2

/-- The sort leaves the order of the scores, -/
theorem srt_v1 (X : Valuation τ sig (Elt F)) : after srt X (Proc.devRef .tc main_v1) = order (X (Proc.devRef .tc main_arg1)) := by
  simp only [srt, hostOps0, hostOps0_1, hostOps0_2, List.cons_append, List.nil_append]
  after_reads_simp
  rfl
/-- the sorted scores, -/
theorem srt_v15 (X : Valuation τ sig (Elt F)) : after srt X (Proc.devRef .tc main_v15) = scores (X (Proc.devRef .tc main_arg1)) := by
  simp only [srt, hostOps0, hostOps0_1, hostOps0_2, List.cons_append, List.nil_append]
  after_reads_simp
  rfl
/-- the sorted boxes' column 0, -/
theorem srt_v28 (X : Valuation τ sig (Elt F)) : after srt X (Proc.devRef .tc main_v28)
    = col0 (boxes (X (Proc.devRef .tc main_arg0)) (X (Proc.devRef .tc main_arg1))) := by
  simp only [srt, hostOps0, hostOps0_1, hostOps0_2, List.cons_append, List.nil_append]
  after_reads_simp
  rfl
/-- column 1, -/
theorem srt_v30 (X : Valuation τ sig (Elt F)) : after srt X (Proc.devRef .tc main_v30)
    = col1 (boxes (X (Proc.devRef .tc main_arg0)) (X (Proc.devRef .tc main_arg1))) := by
  simp only [srt, hostOps0, hostOps0_1, hostOps0_2, List.cons_append, List.nil_append]
  after_reads_simp
  rfl
/-- column 2, -/
theorem srt_v32 (X : Valuation τ sig (Elt F)) : after srt X (Proc.devRef .tc main_v32)
    = col2 (boxes (X (Proc.devRef .tc main_arg0)) (X (Proc.devRef .tc main_arg1))) := by
  simp only [srt, hostOps0, hostOps0_1, hostOps0_2, List.cons_append, List.nil_append]
  after_reads_simp
  rfl
/-- and column 3, -/
theorem srt_v34 (X : Valuation τ sig (Elt F)) : after srt X (Proc.devRef .tc main_v34)
    = col3 (boxes (X (Proc.devRef .tc main_arg0)) (X (Proc.devRef .tc main_arg1))) := by
  simp only [srt, hostOps0, hostOps0_1, hostOps0_2, List.cons_append, List.nil_append]
  after_reads_simp
  rfl
/-- the sorted boxes' areas, -/
theorem srt_v26 (X : Valuation τ sig (Elt F)) : after srt X (Proc.devRef .tc main_v26)
    = areas (boxes (X (Proc.devRef .tc main_arg0)) (X (Proc.devRef .tc main_arg1))) := by
  simp only [srt, hostOps0, hostOps0_1, hostOps0_2, List.cons_append, List.nil_append]
  after_reads_simp
  rfl
/-- and the zero that the padding starts from. -/
theorem srt_c_3 (X : Valuation τ sig (Elt F)) : after srt X (Proc.devRef .tc main_c_3) = constantI S_ 32 0#32 := by
  simp only [srt, hostOps0, hostOps0_1, hostOps0_2, List.cons_append, List.nil_append]
  after_reads_simp

/-- What the region is entered with: the layout of what the sort leaves. -/
theorem V_eq (m : (ℓ : Loc nD τ sig) → Buf (Elt F) ℓ) (c : Dev nD) :
    V m c = after lay (after srt fun b => m (c, b)) := by
  rw [← Idealize.ShloMosaic.StableHlo.after_append]
  rfl

/-- The host line after the region: the result's elements in sorted order, put back at their positions. -/
theorem post_v80 (Y : Valuation τ sig (Elt F)) (s : S5000.Idx → Elt F .f32) (h : Y (Proc.devRef .tc main_v1) = order s) :
    after hostOps1 Y (Proc.devRef .tc main_v80) =
      putBack s (extractStridedSlice S5000 ![0]
        (shapeCast S5120 (transpose S5x8x128 [1, 0, 2] (shapeCast S8x5x128 (Y (Proc.devRef .tc main_v68)) shapeCasts_S8x640_S8x5x128)
          transposes_S8x5x128_S5x8x128_1_0_2) shapeCasts_S5x8x128_S5120) slices_S5120_S5000_0) := by
  unfold putBack
  rw [← h]
  simp only [hostOps1]
  after_reads_simp
  rfl

end Cert.KernelIdeal.Sweep
-- ==== Proof.Greedy.lean ====
module

public import proofs.«01_k».proof.Proof.Cur

@[expose] public section

namespace Proof.Greedy

/-- The greedy scan after `i` turns: a mark is cleared in turn `i` if box `i` covers it, comes before it and is marked. -/
def scan (H : ℕ → ℕ → Prop) (V : ℕ → Prop) : ℕ → ℕ → Prop
  | 0, n => V n
  | i + 1, n => scan H V i n ∧ ¬ (H i n ∧ i < n ∧ scan H V i i)

variable {H : ℕ → ℕ → Prop} {V : ℕ → Prop}

/-- A turn of an unmarked box changes nothing. -/
theorem scan_skip {i : ℕ} (h : ¬ scan H V i i) (n : ℕ) : scan H V (i + 1) n ↔ scan H V i n :=
  ⟨fun h' => h'.1, fun h' => ⟨h', fun h'' => h h''.2.2⟩⟩

/-- A turn of a marked box clears what it covers of the later boxes. -/
theorem scan_clear {i : ℕ} (h : scan H V i i) (n : ℕ) : scan H V (i + 1) n ↔ scan H V i n ∧ ¬ (H i n ∧ i < n) :=
  ⟨fun h' => ⟨h'.1, fun h'' => h'.2 ⟨h''.1, h''.2, h⟩⟩, fun h' => ⟨h'.1, fun h'' => h'.2 ⟨h''.1, h''.2.1⟩⟩⟩

/-- A mark is final once its own turn has come. -/
theorem scan_done {i j n : ℕ} (hn : n ≤ i) (hij : i ≤ j) : scan H V j n ↔ scan H V i n := by
  induction j, hij using Nat.le_induction with
  | base => exact Iff.rfl
  | succ k hk ih => exact ⟨fun h => ih.mp h.1, fun h => ⟨ih.mpr h, fun h' => absurd h'.2.1 (by omega)⟩⟩

/-- The turns from `i` to `j` change nothing if every box between is unmarked after turn `i`. -/
theorem scan_gap {i j : ℕ} (hij : i ≤ j) (h : ∀ l, i ≤ l → l < j → ¬ scan H V i l) (n : ℕ) : scan H V j n ↔ scan H V i n := by
  induction j, hij using Nat.le_induction generalizing n with
  | base => exact Iff.rfl
  | succ k hk ih =>
    have ih' := ih fun l h1 h2 => h l h1 (by omega)
    exact (scan_skip (fun hs => h k hk (by omega) ((ih' k).mp hs)) n).trans (ih' n)

/-- What the first marks leave out stays out. -/
theorem scan_sub {i n : ℕ} (h : scan H V i n) : V n := by
  induction i with
  | zero => exact h
  | succ i ih => exact ih h.1

/-- Two scans agree below `N` if their first marks and their coverings do. -/
theorem scan_congr {H' : ℕ → ℕ → Prop} {V' : ℕ → Prop} {N : ℕ} (hV : ∀ n < N, V n ↔ V' n)
    (hH : ∀ i < N, ∀ n < N, H i n ↔ H' i n) : ∀ i ≤ N, ∀ n < N, scan H V i n ↔ scan H' V' i n := by
  intro i
  induction i with
  | zero => exact fun _ n hn => hV n hn
  | succ i ih =>
    intro hi n hn
    have ih := ih (by omega)
    show _ ∧ _ ↔ _ ∧ _
    rw [ih n hn, hH i (by omega) n hn, ih i (by omega)]

end Proof.Greedy
-- ==== Proof.IdealMarks.lean ====
module

public import proofs.«01_k».proof.Proof.KernelIdealSweep
public import proofs.«01_k».proof.Proof.Greedy

@[expose] public section

set_option maxRecDepth 16384

noncomputable section

namespace Cert.KernelIdeal.Sweep

open Cert.KernelIdeal Cert.KernelIdeal.Gen Proof.Cur Proof.Greedy
open Idealize.ShloMosaic

/-! ## Boxes in order, and where they lie -/

/-- The number, in the order of the scores, of the box at an element of a score-shaped buffer. -/
def place (p : S8x640.Idx) : ℕ := 1024 * ((p 1).val / 128) + 128 * (p 0).val + (p 1).val % 128

/-- The row of box `n`, -/
def row (n : ℕ) : ℕ := n % 1024 / 128
/-- and its column. -/
def colm (n : ℕ) : ℕ := 128 * (n / 1024) + n % 128

/-- The row of a cell's place is the cell's row. -/
theorem row_place (p : S8x640.Idx) : row (place p) = (p 0).val := by
  have h0 : (p 0).val < 8 := (p 0).isLt
  unfold row place; omega

/-- The column of a cell's place is the cell's column. -/
theorem colm_place (p : S8x640.Idx) : colm (place p) = (p 1).val := by
  have h0 : (p 0).val < 8 := (p 0).isLt
  unfold colm place; omega

/-- The cell of a place below 5120 has that place. -/
theorem place_at8 {n : ℕ} (hn : n < 5120) : place (at8 (row n) (colm n)) = n := by
  show 1024 * (colm n % 640 / 128) + 128 * (row n % 8) + colm n % 640 % 128 = n
  unfold row colm; omega

/-- Every cell is the cell of its place. -/
theorem at8_place (p : S8x640.Idx) : at8 (row (place p)) (colm (place p)) = p := by
  have h0 : (p 0).val < 8 := (p 0).isLt
  have h1 : (p 1).val < 640 := (p 1).isLt
  rw [row_place, colm_place]
  funext a
  fin_cases a
  · exact Fin.ext (Nat.mod_eq_of_lt h0)
  · exact Fin.ext (Nat.mod_eq_of_lt h1)

variable (B : S48x640.Idx → Elt Ideal .f32) (T : S25600.Idx → Elt Ideal .f32)

/-- Box `a` covers box `n` by more than the threshold. -/
def Hits (a n : ℕ) : Prop := hit B T a (row n) (colm n) = 1#1

/-- Box `n` has a score that passes. -/
def Passes (n : ℕ) : Prop := FloatOps.cmpf .ogt (fld B 5 (row n) (colm n)) (Scalar.ofBits .f32 0x3D4CCCCD#32 : Ideal .f32) = 1#1

/-- Box `n` is marked after `i` turns of the greedy scan. -/
abbrev Kept (i n : ℕ) : Prop := scan (Hits B T) (Passes B) i n

/-- The mark of a box: one if it is kept, zero if not. -/
def flag (P : Prop) : Ideal .f32 := open Classical in if P then Scalar.ofBits .f32 0x3F800000#32 else zro

/-- Equivalent propositions have the same flag. -/
theorem flag_congr {P Q : Prop} (h : P ↔ Q) : flag P = flag Q := by rw [propext h]

/-- The word 0x3F800000 is one. -/
theorem one_eq : (Scalar.ofBits .f32 0x3F800000#32 : Ideal .f32) = (1 : EReal) := by
  show Ideal.ofBits .f32 0x3F800000#32 = _
  simp [Ideal.ofBits, Ideal.ieee, -EReal.coe_mul]
  norm_num

/-- The word 0x00000000 is zero. -/
theorem zro_eq : (zro : Ideal .f32) = (0 : EReal) := by
  show Ideal.ofBits .f32 0x00000000#32 = _
  simp [Ideal.ofBits, Ideal.ieee, -EReal.coe_mul]

/-- A flag is positive exactly if its proposition holds. -/
theorem pos_flag (P : Prop) : pos (flag P) = 1#1 ↔ P := by
  classical
  unfold pos flag
  show BitVec.ofBool (decide ((zro : Ideal .f32) < if P then (Scalar.ofBits .f32 0x3F800000#32 : Ideal .f32) else zro)) = 1#1 ↔ P
  rw [one_eq, zro_eq]
  by_cases h : P <;> simp [h]

/-- Clearing a mark. -/
theorem flag_clear {P C : Prop} [Decidable C] : (if C then (zro : Ideal .f32) else flag P) = flag (P ∧ ¬ C) := by
  classical
  unfold flag
  by_cases hC : C <;> by_cases hP : P <;> simp [hC, hP]

/-- A bit and a decided proposition: both hold. -/
theorem and_bit (a : BitVec 1) (P : Prop) [Decidable P] : a &&& BitVec.ofBool (decide P) = 1#1 ↔ a = 1#1 ∧ P := by
  rcases Nat.lt_or_ge a.toNat 1 with ha | ha
  · have : a = 0#1 := BitVec.eq_of_toNat_eq (by simpa using ha)
    subst this
    by_cases h : P <;> simp [h]
  · have : a = 1#1 := BitVec.eq_of_toNat_eq (by have := a.isLt; show a.toNat = 1; omega)
    subst this
    by_cases h : P <;> simp [h]

/-- The row and the column of lane `i` of chunk `k`. -/
theorem place_chunk (k : ℕ) (i : S8x128.Idx) :
    row (1024 * k + lane i) = (i 0).val ∧ colm (1024 * k + lane i) = 128 * k + (i 1).val := by
  have h0 : (i 0).val < 8 := (i 0).isLt
  have h1 : (i 1).val < 128 := (i 1).isLt
  unfold row colm lane; omega

/-- Every number below 1024 is a lane of the chunk. -/
theorem exists_lane {l : ℕ} (h : l < 1024) : ∃ i : S8x128.Idx, lane i = l :=
  ⟨atc (l / 128) (l % 128), by show l / 128 % 8 * 128 + l % 128 % 128 = l; omega⟩

/-! ## One chunk -/

/-- The sweep of chunk `k` agrees with the scan: the cursor stands at a kept box of the chunk or past its end, and the
    chunk's marks and the later chunks' are what the scan has when the cursor's turn comes. -/
structure Agrees (k : ℕ) (K₀ : S8x640.Idx → Elt Ideal .f32) (s : St Ideal) : Prop where
  /-- The cursor is a lane or the end. -/
  le : s.j ≤ 1024
  /-- The cursor's box is kept. -/
  at_j : s.j < 1024 → Kept B T (1024 * k + s.j) (1024 * k + s.j)
  /-- The chunk's marks. -/
  here : ∀ i, s.kc i = flag (Kept B T (1024 * k + s.j) (1024 * k + lane i))
  /-- The later chunks' marks. -/
  later : ∀ p, 128 * (k + 1) ≤ (p 1).val → s.K p = flag (Kept B T (1024 * k + s.j) (place p))
  /-- The earlier chunks' marks. -/
  earlier : ∀ p, (p 1).val < 128 * (k + 1) → s.K p = K₀ p

/-- If the cursor moves from after turn `b` to the least marked lane from `b` on, the scan's turns between change nothing. -/
theorem move {k b : ℕ} (kc : S8x128.Idx → Elt Ideal .f32)
    (hkc : ∀ i, kc i = flag (Kept B T (1024 * k + b) (1024 * k + lane i))) (hb : b ≤ 1024) (P : S8x128.Idx → Prop)
    (hP : ∀ i, P i ↔ pos (F := Ideal) (kc i) = 1#1 ∧ b ≤ lane i) :
    b ≤ least P lane ∧ (least P lane < 1024 → Kept B T (1024 * k + least P lane) (1024 * k + least P lane))
      ∧ ∀ n, Kept B T (1024 * k + least P lane) n ↔ Kept B T (1024 * k + b) n := by
  have hle : b ≤ least P lane := by
    rcases least_mem P lane with h | ⟨i, hi, h⟩
    · omega
    · have := ((hP i).mp hi).2; omega
  have gap : ∀ n, Kept B T (1024 * k + least P lane) n ↔ Kept B T (1024 * k + b) n := fun n =>
    scan_gap (by omega) (fun l h1 h2 hs => by
      have hl := least_le P lane
      obtain ⟨i, hi⟩ := exists_lane (l := l - 1024 * k) (by omega)
      have hPi : P i := (hP i).mpr ⟨by
        rw [hkc, pos_flag, hi, show 1024 * k + (l - 1024 * k) = l by omega]; exact hs, by omega⟩
      have := least_le_of P lane hPi
      omega) n
  refine ⟨hle, fun hlt => ?_, gap⟩
  rcases least_mem P lane with h | ⟨i, hi, h⟩
  · omega
  · rw [gap, h]
    have := ((hP i).mp hi).1
    rwa [hkc, pos_flag] at this

/-- At the start of a chunk the loop's state agrees with the scan. -/
theorem agrees_init {k : ℕ} (K : S8x640.Idx → Elt Ideal .f32) (hk : k < 5) (hK : ∀ p, K p = flag (Kept B T (1024 * k) (place p))) :
    Agrees B T k K (init k K) := by
  have hpart : ∀ i, part k K i = flag (Kept B T (1024 * k + 0) (1024 * k + lane i)) := fun i => by
    have h0 : (i 0).val < 8 := (i 0).isLt
    have h1 : (i 1).val < 128 := (i 1).isLt
    refine (hK _).trans (flag_congr ?_)
    rw [show place (at8 (i 0).val (128 * k + (i 1).val)) = 1024 * k + lane i by
      show 1024 * ((128 * k + (i 1).val) % 640 / 128) + 128 * ((i 0).val % 8) + (128 * k + (i 1).val) % 640 % 128 = _
      unfold lane; omega]
    exact Iff.rfl
  obtain ⟨m1, m2, m3⟩ := move B T (k := k) (b := 0) (part k K) hpart (by omega) (fun i => pos (F := Ideal) (part k K i) = 1#1)
    (fun i => ⟨fun h => ⟨h, Nat.zero_le _⟩, fun h => h.1⟩)
  refine ⟨least_le _ _, m2, fun i => ?_, fun p _ => ?_, fun _ _ => rfl⟩
  · exact (hpart i).trans (flag_congr (m3 _).symm)
  · exact (hK p).trans (flag_congr (m3 _).symm)

/-- A turn keeps the agreement, and moves the cursor on while it is below 1024. -/
theorem agrees_step {k : ℕ} {K₀ : S8x640.Idx → Elt Ideal .f32} {s : St Ideal} (h : Agrees B T k K₀ s) :
    Agrees B T k K₀ (step B T k s) ∧ (s.j < 1024 → s.j < (step B T k s).j) := by
  unfold step
  by_cases hj : s.j < 1024
  · rw [if_pos hj]
    have hk := h.at_j hj
    have hkc : ∀ i, clear B T k s.j s.kc i = flag (Kept B T (1024 * k + (s.j + 1)) (1024 * k + lane i)) := fun i => by
      obtain ⟨e0, e1⟩ := place_chunk k i
      unfold clear
      rw [h.here i, flag_clear]
      refine flag_congr (Iff.trans ?_ (scan_clear hk _).symm)
      rw [and_bit]
      have : (1024 * k + s.j < 1024 * k + lane i) ↔ s.j < lane i := by omega
      have hh : Hits B T (1024 * k + s.j) (1024 * k + lane i)
          ↔ hit B T (1024 * k + s.j) (i 0).val (128 * k + (i 1).val) = 1#1 := by
        unfold Hits; rw [e0, e1]
      rw [this, hh]
    obtain ⟨m1, m2, m3⟩ := move B T (k := k) (b := s.j + 1) (clear B T k s.j s.kc) hkc (by omega)
      (fun i => pos (F := Ideal) (clear B T k s.j s.kc i) &&& BitVec.ofBool (decide (s.j < lane i)) = 1#1) (fun i => and_bit _ _)
    refine ⟨⟨least_le _ _, m2, fun i => (hkc i).trans (flag_congr (m3 _).symm), fun p hp => ?_, fun p hp => ?_⟩, fun _ => m1⟩
    · show clearTail B T k s.j s.K p = _
      unfold clearTail
      rw [if_pos hp, h.later p hp, flag_clear]
      refine flag_congr (Iff.trans ?_ ((m3 _).trans (scan_clear hk _)).symm)
      have hh : Hits B T (1024 * k + s.j) (place p) ↔ hit B T (1024 * k + s.j) (p 0).val (p 1).val = 1#1 := by
        unfold Hits; rw [row_place, colm_place]
      have h0 : (p 0).val < 8 := (p 0).isLt
      have : 1024 * k + s.j < place p := by unfold place; omega
      rw [hh]
      simp only [this, and_true]
    · show clearTail B T k s.j s.K p = _
      unfold clearTail
      rw [if_neg (by omega)]
      exact h.earlier p hp
  · rw [if_neg hj]
    exact ⟨h, fun h' => absurd h' hj⟩

/-- So after every number of turns: the state agrees, and the cursor is as far as the turns or at the end. -/
theorem agrees_iterate {k : ℕ} {K₀ : S8x640.Idx → Elt Ideal .f32} {s : St Ideal} (h : Agrees B T k K₀ s) :
    ∀ t, Agrees B T k K₀ ((step B T k)^[t] s) ∧ (t ≤ ((step B T k)^[t] s).j ∨ ((step B T k)^[t] s).j = 1024)
  | 0 => ⟨h, Or.inl (Nat.zero_le _)⟩
  | t + 1 => by
    obtain ⟨ih, hp⟩ := agrees_iterate h t
    rw [Function.iterate_succ_apply']
    generalize (step B T k)^[t] s = u at ih hp ⊢
    obtain ⟨h1, h2⟩ := agrees_step B T ih
    refine ⟨h1, ?_⟩
    have := ih.le
    have := h1.le
    by_cases hj : u.j < 1024
    · have := h2 hj; omega
    · right
      unfold step
      rw [if_neg hj]; omega

/-- After the sweep of chunk `k` the marks are the scan's after the chunk's last turn. -/
theorem chunk_scan {k : ℕ} (hk : k < 5) (K : S8x640.Idx → Elt Ideal .f32) (hK : ∀ p, K p = flag (Kept B T (1024 * k) (place p))) (p : S8x640.Idx) :
    chunk B T k K p = flag (Kept B T (1024 * (k + 1)) (place p)) := by
  obtain ⟨h, hj⟩ := agrees_iterate B T (agrees_init B T K hk hK) 1024
  unfold chunk
  generalize (step B T k)^[1024] (init k K) = s at h hj
  have hj : s.j = 1024 := by have := h.le; omega
  have h0 : (p 0).val < 8 := (p 0).isLt
  have h1 : (p 1).val < 640 := (p 1).isLt
  have e : 1024 * (k + 1) = 1024 * k + s.j := by omega
  rw [e]
  unfold put
  split
  · rename_i hq
    rw [h.here]
    refine flag_congr ?_
    rw [show 1024 * k + lane (atc (p 0).val ((p 1).val - 128 * k)) = place p by
      show 1024 * k + ((p 0).val % 8 * 128 + ((p 1).val - 128 * k) % 128) = _
      unfold place; omega]
  · rename_i hq
    by_cases hl : 128 * (k + 1) ≤ (p 1).val
    · exact h.later p hl
    · rw [h.earlier p (by omega), hK]
      exact flag_congr (scan_done (by unfold place; omega) (by omega)).symm

/-- After the sweeps of the first `n` chunks the marks are the scan's after as many turns. -/
theorem marks_scan : ∀ n ≤ 5, ∀ p, marks B T n p = flag (Kept B T (1024 * n) (place p))
  | 0, _, p => by
    show marks0 B p = flag (Passes B (place p))
    unfold marks0 flag Passes
    rw [row_place, colm_place]
    congr
  | n + 1, h, p => chunk_scan B T (by omega) _ (marks_scan n (by omega)) p

/-- What the kernel writes: the scores of the boxes the scan keeps, zero for the others. -/
theorem out_scan (p : S8x640.Idx) :
    out B T p = open Classical in if Kept B T 5120 (place p) then fld B 5 (p 0).val (p 1).val else (0 : EReal) := by
  classical
  show (marks B T 5 p : EReal) * _ = _
  rw [marks_scan B T 5 (le_refl _) p]
  unfold flag
  rw [one_eq, zro_eq]
  by_cases h : Kept B T 5120 (place p)
  · rw [if_pos h, if_pos h, one_mul]
  · rw [if_neg h, if_neg h, zero_mul]

end Cert.KernelIdeal.Sweep
-- ==== Proof.Cells.lean ====
module

public import proofs.«01_k».proof.Proof.Sorted
public import proofs.«01_k».proof.Proof.IdealMarks
public import Idealize.ShloMosaic.Lib.KernelVsHost

@[expose] public section

set_option maxRecDepth 16384

noncomputable section

namespace Cert.KernelIdeal.Sweep

open Cert.KernelIdeal Cert.KernelIdeal.Gen
open Idealize.ShloMosaic Idealize.ShloMosaic.StableHlo
open Idealize.ShloMosaic.TcCoe Idealize.ShloMosaic.Tactic

variable {F : FTy → Type} [FloatOps F]

/-! ## The tables, one element at a time -/

/-- Element `n` of a list of 5000, -/
def at50 (n : ℕ) : S5000.Idx := fun | 0 => ⟨n % 5000, Nat.mod_lt _ (by decide)⟩
/-- of a list of 5120, -/
def at51 (n : ℕ) : S5120.Idx := fun | 0 => ⟨n % 5120, Nat.mod_lt _ (by decide)⟩
/-- and of the boxes, at column `c`. -/
def at54 (n c : ℕ) : S5000x4.Idx := fun | 0 => ⟨n % 5000, Nat.mod_lt _ (by decide)⟩ | 1 => ⟨c % 4, Nat.mod_lt _ (by decide)⟩

def at853 (r k l : ℕ) : S8x5x128.Idx := fun
  | 0 => ⟨r % 8, Nat.mod_lt _ (by decide)⟩ | 1 => ⟨k % 5, Nat.mod_lt _ (by decide)⟩ | 2 => ⟨l % 128, Nat.mod_lt _ (by decide)⟩
def at583 (k r l : ℕ) : S5x8x128.Idx := fun
  | 0 => ⟨k % 5, Nat.mod_lt _ (by decide)⟩ | 1 => ⟨r % 8, Nat.mod_lt _ (by decide)⟩ | 2 => ⟨l % 128, Nat.mod_lt _ (by decide)⟩
def at512x5 (n c : ℕ) : S5120x5.Idx := fun | 0 => ⟨n % 5120, Nat.mod_lt _ (by decide)⟩ | 1 => ⟨c % 5, Nat.mod_lt _ (by decide)⟩
def at50x5 (n c : ℕ) : S5000x5.Idx := fun | 0 => ⟨n % 5000, Nat.mod_lt _ (by decide)⟩ | 1 => ⟨c % 5, Nat.mod_lt _ (by decide)⟩
def at50x1 (n : ℕ) : S5000x1.Idx := fun | 0 => ⟨n % 5000, Nat.mod_lt _ (by decide)⟩ | 1 => ⟨0, by decide⟩

/-- The index of a position is the position itself. -/
theorem at50_val (i : S5000.Idx) : at50 (i 0).val = i := by
  have h0 : (i 0).val < 5000 := (i 0).isLt
  funext a
  fin_cases a
  exact Fin.ext (Nat.mod_eq_of_lt h0)

/-- Box `n` of a tiled column is at its row and column. -/
theorem tiled_at (x : S5120.Idx → Elt F .f32) {n : ℕ} (hn : n < 5120) : tiled x (at8 (row n) (colm n)) = x (at51 n) := by
  unfold tiled
  refine (shapeCast_apply _ _ _ (at853 (row n) (n / 1024) (n % 128)) ?_).trans
    ((transpose_apply _ _ _ _ (at583 (n / 1024) (row n) (n % 128)) ?_).trans (shapeCast_apply _ _ _ (at51 n) ?_))
  · rw [Shape.rowMajor_val_three, Shape.rowMajor_val_two]
    show ((row n % 8) * 5 + (n / 1024 % 5)) * 128 + (n % 128 % 128) = (row n % 8) * 640 + colm n % 640
    unfold row colm; omega
  · intro b
    fin_cases b <;> rfl
  · rw [Shape.rowMajor_val_three, Shape.rowMajor_val_one]
    show n % 5120 = ((n / 1024 % 5) * 8 + (row n % 8)) * 128 + (n % 128 % 128)
    unfold row; omega

/-- The padded column holds the column at the first 5000 positions. -/
theorem padded_at (x : S5000.Idx → Elt F .f32) (v : S_.Idx → Elt F .f32) {n : ℕ} (hn : n < 5000) : padded x v (at51 n) = x (at50 n) := by
  refine pad_apply_of_inside _ _ _ _ _ _ _ _ (at50 n) fun a => ?_
  fin_cases a
  show n % 5120 = 0 + n % 5000 * (0 + 1)
  omega

/-- Six tables laid one under the other: field `f` of the whole is table `f`. -/
theorem fld_concat (x0 x1 x2 x3 x4 x5 : S8x640.Idx → Elt F .f32) (h) {r q : ℕ} (hr : r < 8) :
    let B : S48x640.Idx → Elt F .f32 := concatenate S48x640 0 [⟨S8x640, x0⟩, ⟨S8x640, x1⟩, ⟨S8x640, x2⟩, ⟨S8x640, x3⟩, ⟨S8x640, x4⟩, ⟨S8x640, x5⟩] h
    fld B 0 r q = x0 (at8 r q) ∧ fld B 1 r q = x1 (at8 r q) ∧ fld B 2 r q = x2 (at8 r q)
      ∧ fld B 3 r q = x3 (at8 r q) ∧ fld B 4 r q = x4 (at8 r q) ∧ fld B 5 r q = x5 (at8 r q) := by
  intro B
  have hoff : ∀ (c : ℕ) (b : Fin S8x640.rank), b.cast (rfl : S8x640.rank = S48x640.rank) ≠ 0 →
      (at8 r q b).val = (at48 (8 * c + r) q (b.cast rfl)).val := fun c b hb => by
    fin_cases b
    · exact absurd rfl hb
    · rfl
  refine ⟨?_, ?_, ?_, ?_, ?_, ?_⟩
  · exact concatenate_apply_piece 0 _ h (at48 (8 * 0 + r) q) 0 (by simp) S8x640 x0 rfl rfl 0 rfl (at8 r q) (hoff 0)
      (show 0 + r % 8 = (8 * 0 + r) % 48 by omega)
  · exact concatenate_apply_piece 0 _ h (at48 (8 * 1 + r) q) 1 (by simp) S8x640 x1 rfl rfl 8 rfl (at8 r q) (hoff 1)
      (show 8 + r % 8 = (8 * 1 + r) % 48 by omega)
  · exact concatenate_apply_piece 0 _ h (at48 (8 * 2 + r) q) 2 (by simp) S8x640 x2 rfl rfl 16 rfl (at8 r q) (hoff 2)
      (show 16 + r % 8 = (8 * 2 + r) % 48 by omega)
  · exact concatenate_apply_piece 0 _ h (at48 (8 * 3 + r) q) 3 (by simp) S8x640 x3 rfl rfl 24 rfl (at8 r q) (hoff 3)
      (show 24 + r % 8 = (8 * 3 + r) % 48 by omega)
  · exact concatenate_apply_piece 0 _ h (at48 (8 * 4 + r) q) 4 (by simp) S8x640 x4 rfl rfl 32 rfl (at8 r q) (hoff 4)
      (show 32 + r % 8 = (8 * 4 + r) % 48 by omega)
  · exact concatenate_apply_piece 0 _ h (at48 (8 * 5 + r) q) 5 (by simp) S8x640 x5 rfl rfl 40 rfl (at8 r q) (hoff 5)
      (show 40 + r % 8 = (8 * 5 + r) % 48 by omega)

/-- A table has eight rows. -/
theorem row_lt (n : ℕ) : row n < 8 := by unfold row; omega

/-- The flat table, word by word. -/
theorem flat_at (X : S5000x5.Idx → Elt F .f32) (v : S_.Idx → Elt F .f32) {n c : ℕ} (hn : n < 5000) (hc : c < 5) :
    sc (shapeCast S25600 (pad S5120x5 ![0, 0] ![120, 0] ![0, 0] X v pads_S5000x5_S5120x5_01200_000 h_S_) shapeCasts_S5120x5_S25600) n c
      = X (at50x5 n c) := by
  refine (shapeCast_apply _ _ _ (at512x5 n c) ?_).trans (pad_apply_of_inside _ _ _ _ _ _ _ _ (at50x5 n c) fun a => ?_)
  · rw [Shape.rowMajor_val_two, Shape.rowMajor_val_one]
    show (n % 5120) * 5 + c % 5 = (5 * n + c) % 25600
    omega
  · fin_cases a
    · show n % 5120 = 0 + n % 5000 * (0 + 1)
      omega
    · show c % 5 = 0 + c % 5 * (0 + 1)
      omega

/-- A column made one wide reads as the column. -/
theorem tall_at (x : S5000.Idx → Elt F .f32) {n : ℕ} :
    broadcastInDim S5000x1 ![0] bcast_S5000_S5000x1_0 x (at50x1 n) = x (at50 n) := by
  refine broadcastInDim_apply _ _ _ _ (at50 n) fun a => ?_
  fin_cases a
  rfl

/-- Five columns laid side by side: column `f` of the whole is the `f`-th. -/
theorem wide_at (x0 x1 x2 x3 x4 : S5000x1.Idx → Elt F .f32) (h) {n : ℕ} :
    let X : S5000x5.Idx → Elt F .f32 := concatenate S5000x5 1 [⟨S5000x1, x0⟩, ⟨S5000x1, x1⟩, ⟨S5000x1, x2⟩, ⟨S5000x1, x3⟩, ⟨S5000x1, x4⟩] h
    X (at50x5 n 0) = x0 (at50x1 n) ∧ X (at50x5 n 1) = x1 (at50x1 n) ∧ X (at50x5 n 2) = x2 (at50x1 n)
      ∧ X (at50x5 n 3) = x3 (at50x1 n) ∧ X (at50x5 n 4) = x4 (at50x1 n) := by
  intro X
  have hoff : ∀ (c : ℕ) (b : Fin S5000x1.rank), b.cast (rfl : S5000x1.rank = S5000x5.rank) ≠ 1 →
      (at50x1 n b).val = (at50x5 n c (b.cast rfl)).val := fun c b hb => by
    fin_cases b
    · rfl
    · exact absurd rfl hb
  refine ⟨?_, ?_, ?_, ?_, ?_⟩
  · exact concatenate_apply_piece 1 _ h (at50x5 n 0) 0 (by simp) S5000x1 x0 rfl rfl 0 rfl (at50x1 n) (hoff 0) rfl
  · exact concatenate_apply_piece 1 _ h (at50x5 n 1) 1 (by simp) S5000x1 x1 rfl rfl 1 rfl (at50x1 n) (hoff 1) rfl
  · exact concatenate_apply_piece 1 _ h (at50x5 n 2) 2 (by simp) S5000x1 x2 rfl rfl 2 rfl (at50x1 n) (hoff 2) rfl
  · exact concatenate_apply_piece 1 _ h (at50x5 n 3) 3 (by simp) S5000x1 x3 rfl rfl 3 rfl (at50x1 n) (hoff 3) rfl
  · exact concatenate_apply_piece 1 _ h (at50x5 n 4) 4 (by simp) S5000x1 x4 rfl rfl 4 rfl (at50x1 n) (hoff 4) rfl

/-- A column of the boxes, element by element. -/
theorem col0_at (q : S5000x4.Idx → Elt F .f32) (n : ℕ) : col0 q (at50 n) = q (at54 n 0) := by
  refine (shapeCast_apply _ _ _ (at50x1 n) ?_).trans (extractStridedSlice_apply _ _ _ _ (at54 n 0) fun a => ?_)
  · rw [Shape.rowMajor_val_two, Shape.rowMajor_val_one]
    show n % 5000 * 1 + 0 = n % 5000
    omega
  · fin_cases a
    · show n % 5000 = 0 + n % 5000
      omega
    · rfl
/-- Column 1 of the boxes at a position. -/
theorem col1_at (q : S5000x4.Idx → Elt F .f32) (n : ℕ) : col1 q (at50 n) = q (at54 n 1) := by
  refine (shapeCast_apply _ _ _ (at50x1 n) ?_).trans (extractStridedSlice_apply _ _ _ _ (at54 n 1) fun a => ?_)
  · rw [Shape.rowMajor_val_two, Shape.rowMajor_val_one]
    show n % 5000 * 1 + 0 = n % 5000
    omega
  · fin_cases a
    · show n % 5000 = 0 + n % 5000
      omega
    · rfl
/-- Column 2 of the boxes at a position. -/
theorem col2_at (q : S5000x4.Idx → Elt F .f32) (n : ℕ) : col2 q (at50 n) = q (at54 n 2) := by
  refine (shapeCast_apply _ _ _ (at50x1 n) ?_).trans (extractStridedSlice_apply _ _ _ _ (at54 n 2) fun a => ?_)
  · rw [Shape.rowMajor_val_two, Shape.rowMajor_val_one]
    show n % 5000 * 1 + 0 = n % 5000
    omega
  · fin_cases a
    · show n % 5000 = 0 + n % 5000
      omega
    · rfl
/-- Column 3 of the boxes at a position. -/
theorem col3_at (q : S5000x4.Idx → Elt F .f32) (n : ℕ) : col3 q (at50 n) = q (at54 n 3) := by
  refine (shapeCast_apply _ _ _ (at50x1 n) ?_).trans (extractStridedSlice_apply _ _ _ _ (at54 n 3) fun a => ?_)
  · rw [Shape.rowMajor_val_two, Shape.rowMajor_val_one]
    show n % 5000 * 1 + 0 = n % 5000
    omega
  · fin_cases a
    · show n % 5000 = 0 + n % 5000
      omega
    · rfl

/-- The result's element at a sorted position. -/
theorem untiled_at (x : S8x640.Idx → Elt F .f32) {n : ℕ} (hn : n < 5000) :
    extractStridedSlice S5000 ![0]
        (shapeCast S5120 (transpose S5x8x128 [1, 0, 2] (shapeCast S8x5x128 x shapeCasts_S8x640_S8x5x128)
          transposes_S8x5x128_S5x8x128_1_0_2) shapeCasts_S5x8x128_S5120) slices_S5120_S5000_0 (at50 n)
      = x (at8 (row n) (colm n)) := by
  refine (extractStridedSlice_apply _ _ _ _ (at51 n) ?_).trans ((shapeCast_apply _ _ _ (at583 (n / 1024) (row n) (n % 128)) ?_).trans
    ((transpose_apply _ _ _ _ (at853 (row n) (n / 1024) (n % 128)) ?_).trans (shapeCast_apply _ _ _ (at8 (row n) (colm n)) ?_)))
  · intro a
    fin_cases a
    show n % 5120 = 0 + n % 5000
    omega
  · rw [Shape.rowMajor_val_three, Shape.rowMajor_val_one]
    show ((n / 1024 % 5) * 8 + (row n % 8)) * 128 + (n % 128 % 128) = n % 5120
    unfold row; omega
  · intro b
    fin_cases b <;> rfl
  · rw [Shape.rowMajor_val_three, Shape.rowMajor_val_two]
    show (row n % 8) * 640 + colm n % 640 = ((row n % 8) * 5 + (n / 1024 % 5)) * 128 + (n % 128 % 128)
    unfold row colm; omega

end Cert.KernelIdeal.Sweep
-- ==== Proof.KeptScores.lean ====
module

public import proofs.«01_k».proof.Proof.Cells

@[expose] public section

set_option maxRecDepth 16384

noncomputable section

namespace Cert.KernelIdeal.Sweep

open Cert.KernelIdeal Cert.KernelIdeal.Gen Proof.Greedy
open Idealize.ShloMosaic Idealize.ShloMosaic.StableHlo
open Idealize.ShloMosaic.TcCoe Idealize.ShloMosaic.Tactic

/-! ## The kernel's result as a function of its arguments -/

/-- Sorted box `i` covers sorted box `n` by more than the threshold. -/
def Over (q : S5000x4.Idx → Elt Ideal .f32) (i n : ℕ) : Prop :=
  ovl (F := Ideal) (q (at54 i 0)) (q (at54 i 1)) (q (at54 i 2)) (q (at54 i 3)) (areas q (at50 i))
    (q (at54 n 0)) (q (at54 n 1)) (q (at54 n 2)) (q (at54 n 3)) (areas q (at50 n)) = 1#1

/-- Sorted score `n` passes. -/
def Good (r : S5000.Idx → Elt Ideal .f32) (n : ℕ) : Prop :=
  FloatOps.cmpf .ogt (r (at50 n)) (Scalar.ofBits .f32 0x3D4CCCCD#32 : Ideal .f32) = 1#1

/-- The sorted scores, zero where the greedy scan drops the box. -/
def keptScores (b : S5000x4.Idx → Elt Ideal .f32) (s : S5000.Idx → Elt Ideal .f32) : S5000.Idx → Elt Ideal .f32 := fun i =>
  open Classical in if scan (Over (boxes b s)) (Good (scores s)) 5000 (i 0).val then scores s i else (0 : EReal)

variable (m : (ℓ : Loc nD τ sig) → Buf (Elt Ideal) ℓ) (c : Dev nD)

/-- The arguments. -/
abbrev argB : S5000x4.Idx → Elt Ideal .f32 := m ((c : Thread nD τ).loc main_arg0)
abbrev argS : S5000.Idx → Elt Ideal .f32 := m ((c : Thread nD τ).loc main_arg1)

/-- The table of columns holds the sorted boxes, their areas and their scores. -/
theorem tabB_at {n : ℕ} (hn : n < 5000) :
    fld (tabB m c) 0 (row n) (colm n) = boxes (argB m c) (argS m c) (at54 n 0)
    ∧ fld (tabB m c) 1 (row n) (colm n) = boxes (argB m c) (argS m c) (at54 n 1)
    ∧ fld (tabB m c) 2 (row n) (colm n) = boxes (argB m c) (argS m c) (at54 n 2)
    ∧ fld (tabB m c) 3 (row n) (colm n) = boxes (argB m c) (argS m c) (at54 n 3)
    ∧ fld (tabB m c) 4 (row n) (colm n) = areas (boxes (argB m c) (argS m c)) (at50 n)
    ∧ fld (tabB m c) 5 (row n) (colm n) = scores (argS m c) (at50 n) := by
  have hB : tabB m c = _ := (congrFun (V_eq m c) _).trans (lay_v59 _)
  rw [lay_v38, lay_v42, lay_v46, lay_v50, lay_v54, lay_v58, srt_v28, srt_v30, srt_v32, srt_v34, srt_v26, srt_v15] at hB
  rw [hB]
  obtain ⟨h0, h1, h2, h3, h4, h5⟩ := fld_concat (F := Ideal) _ _ _ _ _ _ concatenates_S8x640_S8x640_S8x640_S8x640_S8x640_S8x640_S48x640_d0 (q := colm n) (row_lt n)
  have hp : ∀ (x : S5000.Idx → Elt Ideal .f32) v, tiled (padded x v) (at8 (row n) (colm n)) = x (at50 n) := fun x v =>
    (tiled_at _ (by omega)).trans (padded_at x v hn)
  exact ⟨h0.trans ((hp _ _).trans (col0_at _ n)), h1.trans ((hp _ _).trans (col1_at _ n)), h2.trans ((hp _ _).trans (col2_at _ n)),
    h3.trans ((hp _ _).trans (col3_at _ n)), h4.trans (hp _ _), h5.trans (hp _ _)⟩

/-- The flat table holds the sorted boxes and their areas. -/
theorem tabT_at {n : ℕ} (hn : n < 5000) :
    sc (tabT m c) n 0 = boxes (argB m c) (argS m c) (at54 n 0)
    ∧ sc (tabT m c) n 1 = boxes (argB m c) (argS m c) (at54 n 1)
    ∧ sc (tabT m c) n 2 = boxes (argB m c) (argS m c) (at54 n 2)
    ∧ sc (tabT m c) n 3 = boxes (argB m c) (argS m c) (at54 n 3)
    ∧ sc (tabT m c) n 4 = areas (boxes (argB m c) (argS m c)) (at50 n) := by
  have hT : tabT m c = _ := (congrFun (V_eq m c) _).trans (lay_v67 _)
  rw [lay_v65, lay_v60, lay_v61, lay_v62, lay_v63, lay_v64, srt_v28, srt_v30, srt_v32, srt_v34, srt_v26] at hT
  rw [hT]
  obtain ⟨h0, h1, h2, h3, h4⟩ := wide_at (F := Ideal) _ _ _ _ _ concatenates_S5000x1_S5000x1_S5000x1_S5000x1_S5000x1_S5000x5_d1 (n := n)
  exact ⟨(flat_at _ _ hn (by decide)).trans (h0.trans ((tall_at _).trans (col0_at _ n))),
    (flat_at _ _ hn (by decide)).trans (h1.trans ((tall_at _).trans (col1_at _ n))),
    (flat_at _ _ hn (by decide)).trans (h2.trans ((tall_at _).trans (col2_at _ n))),
    (flat_at _ _ hn (by decide)).trans (h3.trans ((tall_at _).trans (col3_at _ n))),
    (flat_at _ _ hn (by decide)).trans (h4.trans (tall_at _))⟩

/-- The marks of the region are the greedy scan over the sorted boxes. -/
theorem kept_iff {n : ℕ} (hn : n < 5000) : Kept (tabB m c) (tabT m c) 5120 n ↔
    scan (Over (boxes (argB m c) (argS m c))) (Good (scores (argS m c))) 5000 n := by
  refine (scan_done (i := 5000) (by omega) (by omega)).trans ?_
  refine scan_congr (N := 5000) (fun n hn => ?_) (fun i hi n hn => ?_) 5000 le_rfl n hn
  · obtain ⟨-, -, -, -, -, h5⟩ := tabB_at m c hn
    unfold Passes Good
    rw [h5]
  · obtain ⟨h0, h1, h2, h3, h4, -⟩ := tabB_at m c hn
    obtain ⟨g0, g1, g2, g3, g4⟩ := tabT_at m c hi
    unfold Hits hit Over
    rw [h0, h1, h2, h3, h4, g0, g1, g2, g3, g4]

/-- The kernel leaves the kept scores at the positions the boxes had. -/
theorem result_eq : result m c = putBack (argS m c) (keptScores (argB m c) (argS m c)) := by
  have h1 : W m c (Proc.devRef .tc main_v1) = order (argS m c) := by
    refine (W_of_ne m c main_v1 (by decide)).trans ?_
    rw [V_eq, lay_v1, srt_v1]
  refine (post_v80 (W m c) (argS m c) h1).trans (congrArg (putBack (argS m c)) (funext fun i => ?_))
  rw [W_v68, ← at50_val i]
  have hn : (i 0).val < 5000 := (i 0).isLt
  refine (untiled_at _ hn).trans ?_
  rw [out_scan, place_at8 (by omega)]
  unfold keptScores
  rw [at50_val i]
  have e : fld (tabB m c) 5 ((at8 (row (i 0).val) (colm (i 0).val)) 0).val ((at8 (row (i 0).val) (colm (i 0).val)) 1).val
      = scores (argS m c) i := by
    have h5 := (tabB_at m c hn).2.2.2.2.2
    rw [at50_val i] at h5
    refine Eq.trans ?_ h5
    show fld _ 5 (row (i 0).val % 8) (colm (i 0).val % 640) = _
    rw [Nat.mod_eq_of_lt (row_lt _), Nat.mod_eq_of_lt (by unfold colm; omega)]
  rw [e]
  by_cases h : scan (Over (boxes (argB m c) (argS m c))) (Good (scores (argS m c))) 5000 (i 0).val
  · rw [if_pos h, if_pos ((kept_iff m c hn).mpr h)]
  · rw [if_neg h, if_neg fun h' => h ((kept_iff m c hn).mp h')]

end Cert.KernelIdeal.Sweep
-- ==== Proof.ReferenceRun.lean ====
module

public import proofs.«01_k».proof.Proof.Gen.ReferenceIdeal.Run

@[expose] public section

set_option maxRecDepth 16384

noncomputable section

namespace Cert.ReferenceIdeal.Scan

open Cert.ReferenceIdeal Cert.ReferenceIdeal.Gen Cert.ReferenceIdeal.Value
open Idealize.ShloMosaic Idealize.ShloMosaic.StableHlo
open Idealize.ShloMosaic.TcCoe Idealize.ShloMosaic.Tactic
open Idealize.SL Idealize.SL.Sem

variable {F : FTy → Type} [FloatOps F]

variable (m : (ℓ : Loc nD τ sig) → Buf (Elt F) ℓ)

/-- A buffer no operation of a list of stretches writes keeps its contents. -/
theorem afterL_keep (b : DevRef τ sig) : ∀ (items : List (List (HloOp τ sig (Elt F)))) (V : Valuation τ sig (Elt F)),
    (items.Forall fun ops => ops.Forall fun op => b ∉ op.writes) → afterL items V b = V b := fun items V h => by
  rw [afterL_eq_after_flatten]
  refine after_of_forall_not_mem _ _ fun op hop => ?_
  obtain ⟨ops, ho, hop⟩ := List.mem_flatten.mp hop
  exact List.forall_iff_forall_mem.mp (List.forall_iff_forall_mem.mp h ops ho) op hop

/-- No operation before the loop, of a trip, of the condition or after the loop writes `r`. -/
def Untouched (r : Ref sig .tc) : Prop :=
  ([preI (F := F), bodyI, postI, [condOps]].flatten).Forall fun ops => ops.Forall fun op => Proc.devRef .tc r ∉ op.writes

/-- Nothing writes the boxes, -/
theorem untouched_arg0 : Untouched (F := F) main_arg0 := by
  simp only [Untouched, List.flatten, preI, bodyI, postI, List.cons_append, List.nil_append, List.append_nil, List.Forall]
  repeat' apply And.intro
  all_goals exact fun hm => StableHlo.devRef_ne_of_ne (by decide) (Finset.mem_singleton.mp hm)
/-- and nothing writes the scores. -/
theorem untouched_arg1 : Untouched (F := F) main_arg1 := by
  simp only [Untouched, List.flatten, preI, bodyI, postI, List.cons_append, List.nil_append, List.append_nil, List.Forall]
  repeat' apply And.intro
  all_goals exact fun hm => StableHlo.devRef_ne_of_ne (by decide) (Finset.mem_singleton.mp hm)

/-- A buffer nothing writes ends as launched. -/
theorem final_keep (r : Ref sig .tc) (h : Untouched (F := F) r) (c : Dev nD) :
    finalContents condOps preI bodyI postI 5000 m c (Proc.devRef .tc r) = m ((c : Thread nD τ).loc r) := by
  have hm := List.forall_iff_forall_mem.mp h
  have sub : ∀ items ∈ [preI (F := F), bodyI, postI, [condOps]],
      items.Forall fun ops => ops.Forall fun op => Proc.devRef .tc r ∉ op.writes := fun items hi =>
    List.forall_iff_forall_mem.mpr fun ops ho => hm ops (List.mem_flatten.mpr ⟨items, hi, ho⟩)
  have hpre := sub preI (by simp)
  have hbody := sub bodyI (by simp)
  have hpost := sub postI (by simp)
  have hcond : (condOps (F := F)).Forall fun op => Proc.devRef .tc r ∉ op.writes := by
    have := sub [condOps] (by simp)
    exact List.forall_iff_forall_mem.mp this condOps (by simp)
  have hc : ∀ V : Valuation τ sig (Elt F), after condOps V (Proc.devRef .tc r) = V (Proc.devRef .tc r) := fun V =>
    after_of_forall_not_mem _ _ (List.forall_iff_forall_mem.mp hcond)
  have trip : ∀ k, atK m k c (Proc.devRef .tc r) = m ((c : Thread nD τ).loc r) := by
    intro k
    induction k with
    | zero => exact (afterL_keep _ _ _ hpre).trans rfl
    | succ k ih => exact (afterL_keep _ _ _ hbody).trans ((hc _).trans ih)
  exact (afterL_keep _ _ _ hpost).trans ((hc _).trans (trip 5000))

/-- What the reference leaves in its result. -/
def result (c : Dev nD) : (Proc.devRef .tc main_v70 : DevRef τ sig).ty.Contents (Elt F) :=
  finalContents condOps preI bodyI postI 5000 m c (Proc.devRef .tc main_v70)

/-- Every run of the reference ends with the result holding `result`, both arguments as launched, and every counter at zero. -/
theorem run_main (ρ : Dev nD → PrngReg) :
    θ_run (defs (F := F)) (onTc (τ := τ) (main (F := F))) ⟨m, fun _ => 0, ρ⟩ (fun r =>
      (∀ c : Dev nD, r.2.mem ((c : Thread nD τ).loc main_v70) = result m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run _ _ _).mono (fun r h =>
    ⟨fun c => ⟨h c main_v70 rfl, (h c main_arg0 rfl).trans (final_keep m _ untouched_arg0 c),
      (h c main_arg1 rfl).trans (final_keep m _ untouched_arg1 c)⟩,
      sem_eq_zero_of_no_sems rfl r.2⟩) (run_fold m ρ)

end Cert.ReferenceIdeal.Scan
-- ==== Proof.ReferenceLoop.lean ====
module

public import proofs.«01_k».proof.Proof.ReferenceRun
public import proofs.«01_k».proof.Proof.KeptScores
public import Idealize.ShloMosaic.Lib.DynamicIndex

@[expose] public section

set_option maxRecDepth 16384

noncomputable section

namespace Cert.ReferenceIdeal.Scan

open Cert.ReferenceIdeal Cert.ReferenceIdeal.Gen Cert.ReferenceIdeal.Value Proof.Greedy
open Cert.KernelIdeal.Sweep (at50)
open Idealize.ShloMosaic Idealize.ShloMosaic.StableHlo
open Idealize.ShloMosaic.TcCoe Idealize.ShloMosaic.Tactic

variable {F : FTy → Type} [FloatOps F]

/-! ## One turn of the reference's loop, one box at a time -/

/-- The element of a square table at row `a`, column `b`. -/
def at55 (a b : ℕ) : S5000x5000.Idx := fun | 0 => ⟨a % 5000, Nat.mod_lt _ (by decide)⟩ | 1 => ⟨b % 5000, Nat.mod_lt _ (by decide)⟩
/-- The element of a single row at column `b`. -/
def at15 (b : ℕ) : S1x5000.Idx := fun | 0 => ⟨0, by decide⟩ | 1 => ⟨b % 5000, Nat.mod_lt _ (by decide)⟩
/-- The one element of a list of one. -/
def at1 : S1.Idx := fun | 0 => ⟨0, by decide⟩

/-- The loop's counter at turn `k` is `k`. -/
theorem iv_nat (k : ℕ) : (Scf.iv 0#32 1#32 k : BitVec 32) = BitVec.ofNat 32 k := by
  simp [Scf.iv]

/-- A number below 5000 is itself as a signed word. -/
theorem toInt_small {k : ℕ} (hk : k < 5000) : (BitVec.ofNat 32 k).toInt = k := toInt_ofNat_of_lt (by omega)

/-- A list read at a counter. -/
theorem pick_list {α : Type} (x : S5000.Idx → α) (start : Fin 1 → Int) {k : ℕ} (hk : k < 5000) (hs : start 0 = k) (j : S_.Idx) :
    shapeCast S_ (Host.dynamicSlice S1 x start sliceFits_S5000_S1) shapeCasts_S1_S_ j = x (at50 k) := by
  have hoff : S5000.Slices (fun _ : Fin 1 => k) S1 := ⟨rfl, fun a => by
    fin_cases a
    show k + 1 ≤ 5000
    omega⟩
  rw [Host.dynamicSlice_eq_extractStridedSlice S1 x start (fun _ => k) _ hoff (fun a => by fin_cases a; exact hs)]
  refine (shapeCast_apply _ _ _ at1 ?_).trans (extractStridedSlice_apply _ _ _ _ (at50 k) fun a => ?_)
  · exact (Nat.lt_one_iff.mp (S1.rowMajor at1).isLt).trans (Nat.lt_one_iff.mp (S_.rowMajor j).isLt).symm
  · fin_cases a
    show k % 5000 = k + 0
    omega

/-- A row of the table read at a counter. -/
theorem pick_row {α : Type} (x : S5000x5000.Idx → α) (start : Fin 2 → Int) {k : ℕ} (hk : k < 5000) (hs : start 0 = k) (hz : start 1 = 0)
    (j : S5000.Idx) :
    shapeCast S5000 (Host.dynamicSlice S1x5000 x start sliceFits_S5000x5000_S1x5000) shapeCasts_S1x5000_S5000 j = x (at55 k (j 0).val) := by
  have hj : (j 0).val < 5000 := (j 0).isLt
  have hoff : S5000x5000.Slices (![k, 0] : Fin 2 → ℕ) S1x5000 := ⟨rfl, fun a => by
    fin_cases a
    · show k + 1 ≤ 5000
      omega
    · show 0 + 5000 ≤ 5000
      omega⟩
  rw [Host.dynamicSlice_eq_extractStridedSlice S1x5000 x start ![k, 0] _ hoff (fun a => by
    fin_cases a
    · exact hs
    · exact hz)]
  refine (shapeCast_apply _ _ _ (at15 (j 0).val) ?_).trans (extractStridedSlice_apply _ _ _ _ (at55 k (j 0).val) fun a => ?_)
  · rw [Shape.rowMajor_val_two, Shape.rowMajor_val_one]
    show 0 * 5000 + (j 0).val % 5000 = (j 0).val
    omega
  · fin_cases a
    · show k % 5000 = k + 0
      omega
    · show (j 0).val % 5000 = 0 + (j 0).val % 5000
      omega

/-- The counter's box: the loop reads its own number. -/
theorem pick_self (V0 : Valuation τ sig (Elt F)) {k : ℕ} (hk : k < 5000) (h0 : V0 (Proc.devRef .tc main_v61_0) = iotaInDim S5000 32 0)
    (h3 : V0 (Proc.devRef .tc main_v61_3) = fun _ => Scf.iv 0#32 1#32 k) : res_main_while0b_v71 V0 = fun _ => BitVec.ofNat 32 k := by
  funext j
  unfold res_main_while0b_v71
  refine (pick_list (V0 (Proc.devRef .tc main_v61_0)) _ hk ?_ j).trans ?_
  · show (V0 (Proc.devRef .tc main_v61_3) _).toInt = _
    rw [h3]
    show (Scf.iv 0#32 1#32 k : BitVec 32).toInt = k
    rw [iv_nat, toInt_small hk]
  · rw [h0]
    show BitVec.ofNat 32 (k % 5000) = _
    rw [Nat.mod_eq_of_lt hk]

/-- Both bits are set. -/
theorem and_one (a b : BitVec 1) : IntOp.andi a b = 1#1 ↔ a = 1#1 ∧ b = 1#1 := by
  revert a b; decide
/-- The other bit is not set. -/
theorem not_one (a : BitVec 1) : ~~~a = 1#1 ↔ ¬ a = 1#1 := by
  revert a; decide

/-- Comparing the words of two positions compares the positions. -/
theorem later_iff {k j : ℕ} (hk : k < 5000) (hj : j < 5000) :
    IntOp.cmpi .sgt (BitVec.ofNat 32 j) (BitVec.ofNat 32 k) = 1#1 ↔ k < j := by
  show BitVec.ofBool ((BitVec.ofNat 32 k).slt (BitVec.ofNat 32 j)) = 1#1 ↔ _
  rw [BitVec.slt, toInt_small hk, toInt_small hj]
  by_cases h : k < j
  · simp [h]
  · simp [h]

/-- One turn clears a mark exactly if the turn's box is marked, comes before, and covers the mark's box. -/
theorem turn_at (V0 : Valuation τ sig (Elt F)) {k : ℕ} (hk : k < 5000) (h0 : V0 (Proc.devRef .tc main_v61_0) = iotaInDim S5000 32 0)
    (h2 : V0 (Proc.devRef .tc main_v61_2) = iotaInDim S5000 32 0)
    (h3 : V0 (Proc.devRef .tc main_v61_3) = fun _ => Scf.iv 0#32 1#32 k)
    (T : S5000x5000.Idx → Elt F .f32) (h1 : V0 (Proc.devRef .tc main_v61_1) = T)
    (K : S5000.Idx → Elt F .i1) (h4 : V0 (Proc.devRef .tc main_v61_4) = K)
    (K' : S5000.Idx → Elt F .i1) (h' : afterL bodyI V0 (Proc.devRef .tc main_v61_4) = K') (j : S5000.Idx) :
    K' j = 1#1 ↔ K j = 1#1 ∧ ¬ (FloatOps.cmpf .ogt (T (at55 k (j 0).val)) (Scalar.ofBits .f32 0x3E99999A#32 : F .f32) = 1#1
      ∧ k < (j 0).val ∧ K (at50 k) = 1#1) := by
  have hj : (j 0).val < 5000 := (j 0).isLt
  have e := trip_main_v61_4 V0
  rw [pick_self V0 hk h0 h3, h1, h2, h4] at e
  have e := h'.symm.trans e
  have hsel : ∀ p : S_.Idx, (select (cmpi .slt (fun _ : S_.Idx => BitVec.ofNat 32 k) (constantI S_ 32 0#32))
      (addi (fun _ : S_.Idx => BitVec.ofNat 32 k) (constantI S_ 32 5000#32)) (fun _ : S_.Idx => BitVec.ofNat 32 k) p : BitVec 32).toInt = k := fun p => by
    rw [select_slt_zero_of_nonneg _ _ _ _ (by rw [toInt_small hk]; omega), toInt_small hk]
  have hz : ∀ p : S_.Idx, (select (cmpi .slt (constantI S_ 32 0#32) (constantI S_ 32 0#32))
      (addi (constantI S_ 32 0#32) (constantI S_ 32 5000#32)) (constantI S_ 32 0#32) p : BitVec 32).toInt = 0 := fun _ => rfl
  rw [e]
  show IntOp.andi (K j) (~~~(IntOp.andi (IntOp.andi (IntOp.andi (FloatOps.cmpf .ogt (shapeCast S5000 (Host.dynamicSlice S1x5000 T _ _) _ j) _) (IntOp.cmpi .sgt _ _))
    (shapeCast S_ (Host.dynamicSlice S1 K _ _) _ _)) (K j))) = 1#1 ↔ _
  rw [pick_row T _ hk (hsel (Shape.Idx.first h_S_)) (hz (Shape.Idx.first h_S_)), pick_list K _ hk (hsel (Shape.Idx.first h_S_)), and_one, not_one, and_one, and_one, and_one]
  show _ ∧ ¬(((FloatOps.cmpf .ogt (T (at55 k (j 0).val)) (Scalar.ofBits .f32 0x3E99999A#32 : F .f32) = 1#1
    ∧ IntOp.cmpi .sgt (BitVec.ofNat 32 (j 0).val) (BitVec.ofNat 32 k) = 1#1) ∧ _) ∧ _) ↔ _
  rw [later_iff hk hj]
  tauto

end Cert.ReferenceIdeal.Scan
-- ==== Proof.ReferenceTable.lean ====
module

public import proofs.«01_k».proof.Proof.ReferenceLoop

@[expose] public section

set_option maxRecDepth 16384

noncomputable section

namespace Cert.ReferenceIdeal.Scan

open Cert.ReferenceIdeal Cert.ReferenceIdeal.Gen Cert.ReferenceIdeal.Value Proof.Greedy
open Cert.KernelIdeal.Sweep (at50 at54 order column boxes scores areas putBack)
open Idealize.ShloMosaic Idealize.ShloMosaic.StableHlo
open Idealize.ShloMosaic.TcCoe Idealize.ShloMosaic.Tactic

variable {F : FTy → Type} [FloatOps F]

/-! ## What the loop starts from -/

/-- The first stretches: the sort, and the corner differences of every pair of boxes. -/
abbrev srt : List (HloOp τ sig (Elt F)) := hostOps0 ++ hostOps0_1 ++ hostOps0_2

/-- The sort leaves the order of the scores, -/
theorem srt_v1 (X : Valuation τ sig (Elt F)) : after srt X (Proc.devRef .tc main_v1) = order (F := F) (X (Proc.devRef .tc main_arg1)) := by
  simp only [srt, hostOps0, hostOps0_1, hostOps0_2, List.cons_append, List.nil_append]
  after_reads_simp
  rfl
/-- the sorted scores, -/
theorem srt_v15 (X : Valuation τ sig (Elt F)) : after srt X (Proc.devRef .tc main_v15) = scores (F := F) (X (Proc.devRef .tc main_arg1)) := by
  simp only [srt, hostOps0, hostOps0_1, hostOps0_2, List.cons_append, List.nil_append]
  after_reads_simp
  rfl
/-- and the boxes in that order. -/
theorem srt_v8 (X : Valuation τ sig (Elt F)) : after srt X (Proc.devRef .tc main_v8)
    = boxes (F := F) (X (Proc.devRef .tc main_arg0)) (X (Proc.devRef .tc main_arg1)) := by
  simp only [srt, hostOps0, hostOps0_1, hostOps0_2, List.cons_append, List.nil_append]
  after_reads_simp
  rfl

/-- A pair of columns along the rows of the square, -/
def down (x : S5000x2.Idx → Elt F .f32) : S5000x5000x2.Idx → Elt F .f32 :=
  broadcastInDim S5000x5000x2 ![0, 1, 2] bcast_S5000x1x2_S5000x5000x2_0_1_2 (broadcastInDim S5000x1x2 ![0, 2] bcast_S5000x2_S5000x1x2_0_2 x)
/-- and along its columns. -/
def across (x : S5000x2.Idx → Elt F .f32) : S5000x5000x2.Idx → Elt F .f32 :=
  broadcastInDim S5000x5000x2 ![0, 1, 2] bcast_S1x5000x2_S5000x5000x2_0_1_2 (broadcastInDim S1x5000x2 ![1, 2] bcast_S5000x2_S1x5000x2_1_2 x)
/-- The upper left corners, -/
def lowCorner (q : S5000x4.Idx → Elt F .f32) : S5000x2.Idx → Elt F .f32 := extractStridedSlice S5000x2 ![0, 0] q slices_S5000x4_S5000x2_0_0
/-- and the lower right ones. -/
def highCorner (q : S5000x4.Idx → Elt F .f32) : S5000x2.Idx → Elt F .f32 := extractStridedSlice S5000x2 ![0, 2] q slices_S5000x4_S5000x2_0_2
/-- The extents of the pairwise intersections, clipped at zero. -/
def extents (q : S5000x4.Idx → Elt F .f32) : S5000x5000x2.Idx → Elt F .f32 :=
  maximumf (broadcastInDim S5000x5000x2 ![] bcast_S_S5000x5000x2 (constant S_ .f32 0x00000000#32))
    (subf (minimumf (down (highCorner q)) (across (highCorner q))) (maximumf (down (lowCorner q)) (across (lowCorner q))))
/-- The areas of the pairwise intersections. -/
def common (w : S5000x5000x2.Idx → Elt F .f32) : S5000x5000.Idx → Elt F .f32 :=
  mulf (shapeCast S5000x5000 (extractStridedSlice S5000x5000x1 ![0, 0, 0] w slices_S5000x5000x2_S5000x5000x1_0_0_0) shapeCasts_S5000x5000x1_S5000x5000)
    (shapeCast S5000x5000 (extractStridedSlice S5000x5000x1 ![0, 0, 1] w slices_S5000x5000x2_S5000x5000x1_0_0_1) shapeCasts_S5000x5000x1_S5000x5000)
/-- The pairwise ratios of intersection to union. -/
def ratios (w : S5000x5000x2.Idx → Elt F .f32) (a : S5000.Idx → Elt F .f32) : S5000x5000.Idx → Elt F .f32 :=
  Host.divf (common w) (maximumf (subf (addf
      (broadcastInDim S5000x5000 ![0, 1] bcast_S5000x1_S5000x5000_0_1 (broadcastInDim S5000x1 ![0] bcast_S5000_S5000x1_0 a))
      (broadcastInDim S5000x5000 ![0, 1] bcast_S1x5000_S5000x5000_0_1 (broadcastInDim S1x5000 ![1] bcast_S5000_S1x5000_1 a))) (common w))
    (broadcastInDim S5000x5000 ![] bcast_S_S5000x5000 (constant S_ .f32 0x3089705F#32)))

/-- The extents of all pairs' intersections. -/
theorem srt_v31 (X : Valuation τ sig (Elt F)) : after (srt ++ hostOps0_3) X (Proc.devRef .tc main_v31)
    = extents (boxes (F := F) (X (Proc.devRef .tc main_arg0)) (X (Proc.devRef .tc main_arg1))) := by
  have e : after (srt ++ hostOps0_3) X (Proc.devRef .tc main_v31)
      = extents (after (hostOps0 ++ hostOps0_1 ++ hostOps0_2) X (Proc.devRef .tc main_v8)) := by
    simp only [srt, hostOps0, hostOps0_1, hostOps0_2, hostOps0_3, List.cons_append, List.nil_append]
    after_reads_simp
    rfl
  rw [e, srt_v8]

/-- The loop takes the table of ratios, -/
theorem tail_v61_1 (Y : Valuation τ sig (Elt F)) : after hostOps0_4 Y (Proc.devRef .tc main_v61_1)
    = ratios (Y (Proc.devRef .tc main_v31)) (areas (F := F) (Y (Proc.devRef .tc main_v8))) := by
  simp only [hostOps0_4]
  after_reads_simp
  rfl
/-- the marks of the scores over the threshold, -/
theorem tail_v61_4 (Y : Valuation τ sig (Elt F)) : after hostOps0_4 Y (Proc.devRef .tc main_v61_4)
    = cmpf .ogt (Y (Proc.devRef .tc main_v15)) (broadcastInDim S5000 ![] bcast_S_S5000 (constant S_ .f32 0x3D4CCCCD#32)) := by
  simp only [hostOps0_4]
  after_reads_simp
  rfl
/-- the positions, -/
theorem tail_v61_0 (Y : Valuation τ sig (Elt F)) : after hostOps0_4 Y (Proc.devRef .tc main_v61_0) = iotaInDim S5000 32 0 := by
  simp only [hostOps0_4]
  after_reads_simp
  rfl
/-- and the positions again, as its turns. -/
theorem tail_v61_2 (Y : Valuation τ sig (Elt F)) : after hostOps0_4 Y (Proc.devRef .tc main_v61_2) = iotaInDim S5000 32 0 := by
  simp only [hostOps0_4]
  after_reads_simp
  rfl

variable (m : (ℓ : Loc nD τ sig) → Buf (Elt F) ℓ) (c : Dev nD)

abbrev argB : S5000x4.Idx → Elt F .f32 := m ((c : Thread nD τ).loc main_arg0)
abbrev argS : S5000.Idx → Elt F .f32 := m ((c : Thread nD τ).loc main_arg1)

/-- The loop's entry is reached by the sort, the extents and the ratios, in turn. -/
theorem entry_eq : entryContents preI m c = after hostOps0_4 (after (srt ++ hostOps0_3) (launchContents m c)) := by
  show afterL preI _ = _
  rw [afterL_eq_after_flatten, ← Idealize.ShloMosaic.StableHlo.after_append]
  rfl

/-- Through the clip nothing the sort left changes. -/
theorem clip_v1 (X : Valuation τ sig (Elt F)) : after (srt ++ hostOps0_3) X (Proc.devRef .tc main_v1) = order (F := F) (X (Proc.devRef .tc main_arg1)) := by
  rw [Idealize.ShloMosaic.StableHlo.after_append]
  exact (after_of_writes_sub _ _ hostOps0_3_writes (by decide)).trans (srt_v1 X)
/-- The extents leave the sorted boxes alone, -/
theorem clip_v8 (X : Valuation τ sig (Elt F)) : after (srt ++ hostOps0_3) X (Proc.devRef .tc main_v8)
    = boxes (F := F) (X (Proc.devRef .tc main_arg0)) (X (Proc.devRef .tc main_arg1)) := by
  rw [Idealize.ShloMosaic.StableHlo.after_append]
  exact (after_of_writes_sub _ _ hostOps0_3_writes (by decide)).trans (srt_v8 X)
/-- and the sorted scores. -/
theorem clip_v15 (X : Valuation τ sig (Elt F)) : after (srt ++ hostOps0_3) X (Proc.devRef .tc main_v15) = scores (F := F) (X (Proc.devRef .tc main_arg1)) := by
  rw [Idealize.ShloMosaic.StableHlo.after_append]
  exact (after_of_writes_sub _ _ hostOps0_3_writes (by decide)).trans (srt_v15 X)

/-- At the entry: the order of the scores, -/
theorem entry_v1 : entryContents preI m c (Proc.devRef .tc main_v1) = order (F := F) (argS m c) := by
  rw [entry_eq]
  exact (after_of_writes_sub _ _ hostOps0_4_writes (by decide)).trans (clip_v1 _)
/-- the sorted scores, -/
theorem entry_v15 : entryContents preI m c (Proc.devRef .tc main_v15) = scores (F := F) (argS m c) := by
  rw [entry_eq]
  exact (after_of_writes_sub _ _ hostOps0_4_writes (by decide)).trans (clip_v15 _)
/-- the ratios of the sorted boxes, -/
theorem entry_v61_1 : entryContents preI m c (Proc.devRef .tc main_v61_1)
    = ratios (extents (boxes (F := F) (argB m c) (argS m c))) (areas (F := F) (boxes (F := F) (argB m c) (argS m c))) := by
  rw [entry_eq, tail_v61_1, srt_v31, clip_v8]
/-- and the marks of the sorted scores over the threshold. -/
theorem entry_v61_4 : entryContents preI m c (Proc.devRef .tc main_v61_4)
    = cmpf .ogt (scores (F := F) (argS m c)) (broadcastInDim S5000 ![] bcast_S_S5000 (constant S_ .f32 0x3D4CCCCD#32)) := by
  rw [entry_eq, tail_v61_4, clip_v15]

end Cert.ReferenceIdeal.Scan
-- ==== Proof.ReferenceKept.lean ====
module

public import proofs.«01_k».proof.Proof.ReferenceTable

@[expose] public section

set_option maxRecDepth 16384

noncomputable section

namespace Cert.ReferenceIdeal.Scan

open Cert.ReferenceIdeal Cert.ReferenceIdeal.Gen Cert.ReferenceIdeal.Value Proof.Greedy
open Cert.KernelIdeal.Sweep (at50 at54 at50x1 at50_val order column boxes scores areas putBack ovl Over Good keptScores)
open Idealize.ShloMosaic Idealize.ShloMosaic.StableHlo
open Idealize.ShloMosaic.TcCoe Idealize.ShloMosaic.Tactic

/-! ## The table of ratios, one pair at a time -/

section Pair
variable {F : FTy → Type} [FloatOps F]

def at52 (n c : ℕ) : S5000x2.Idx := fun | 0 => ⟨n % 5000, Nat.mod_lt _ (by decide)⟩ | 1 => ⟨c % 2, Nat.mod_lt _ (by decide)⟩
def at512 (n c : ℕ) : S5000x1x2.Idx := fun
  | 0 => ⟨n % 5000, Nat.mod_lt _ (by decide)⟩ | 1 => ⟨0, by decide⟩ | 2 => ⟨c % 2, Nat.mod_lt _ (by decide)⟩
def at152 (n c : ℕ) : S1x5000x2.Idx := fun
  | 0 => ⟨0, by decide⟩ | 1 => ⟨n % 5000, Nat.mod_lt _ (by decide)⟩ | 2 => ⟨c % 2, Nat.mod_lt _ (by decide)⟩
def at552 (i n c : ℕ) : S5000x5000x2.Idx := fun
  | 0 => ⟨i % 5000, Nat.mod_lt _ (by decide)⟩ | 1 => ⟨n % 5000, Nat.mod_lt _ (by decide)⟩ | 2 => ⟨c % 2, Nat.mod_lt _ (by decide)⟩
def at551 (i n : ℕ) : S5000x5000x1.Idx := fun
  | 0 => ⟨i % 5000, Nat.mod_lt _ (by decide)⟩ | 1 => ⟨n % 5000, Nat.mod_lt _ (by decide)⟩ | 2 => ⟨0, by decide⟩

/-- A table spread along the second axis reads at the first index. -/
theorem down_at (x : S5000x2.Idx → Elt F .f32) (i n c : ℕ) : down x (at552 i n c) = x (at52 i c) := by
  refine (broadcastInDim_apply _ _ _ _ (at512 i c) fun a => ?_).trans (broadcastInDim_apply _ _ _ _ (at52 i c) fun a => ?_)
  · fin_cases a <;> rfl
  · fin_cases a <;> rfl
/-- A table spread along the first axis reads at the second index. -/
theorem across_at (x : S5000x2.Idx → Elt F .f32) (i n c : ℕ) : across x (at552 i n c) = x (at52 n c) := by
  refine (broadcastInDim_apply _ _ _ _ (at152 n c) fun a => ?_).trans (broadcastInDim_apply _ _ _ _ (at52 n c) fun a => ?_)
  · fin_cases a <;> rfl
  · fin_cases a <;> rfl

/-- The low corners are coordinates 0 and 1. -/
theorem low_at (q : S5000x4.Idx → Elt F .f32) (n : ℕ) {c : ℕ} (hc : c < 2) : lowCorner q (at52 n c) = q (at54 n c) :=
  extractStridedSlice_apply _ _ _ _ (at54 n c) fun a => by
    fin_cases a
    · show n % 5000 = 0 + n % 5000
      omega
    · show c % 4 = 0 + c % 2
      omega
/-- The high corners are coordinates 2 and 3. -/
theorem high_at (q : S5000x4.Idx → Elt F .f32) (n : ℕ) {c : ℕ} (hc : c < 2) : highCorner q (at52 n c) = q (at54 n (c + 2)) :=
  extractStridedSlice_apply _ _ _ _ (at54 n (c + 2)) fun a => by
    fin_cases a
    · show n % 5000 = 0 + n % 5000
      omega
    · show (c + 2) % 4 = 2 + c % 2
      omega

/-- The extent of an intersection along an axis. -/
theorem extents_at (q : S5000x4.Idx → Elt F .f32) (i n : ℕ) {c : ℕ} (hc : c < 2) : extents q (at552 i n c) =
    FloatOps.maximumf (Scalar.ofBits .f32 0x00000000#32 : F .f32)
      (FloatOps.subf (FloatOps.minimumf (q (at54 i (c + 2))) (q (at54 n (c + 2)))) (FloatOps.maximumf (q (at54 i c)) (q (at54 n c)))) := by
  show FloatOps.maximumf _ (FloatOps.subf (FloatOps.minimumf (down (highCorner q) (at552 i n c)) (across (highCorner q) (at552 i n c)))
    (FloatOps.maximumf (down (lowCorner q) (at552 i n c)) (across (lowCorner q) (at552 i n c)))) = _
  rw [down_at, across_at, down_at, across_at, low_at q i hc, low_at q n hc, high_at q i hc, high_at q n hc]
  rfl

/-- The area two boxes share is the product of the extents along the axes. -/
theorem common_at (w : S5000x5000x2.Idx → Elt F .f32) (i n : ℕ) : common w (at55 i n) = FloatOps.mulf (w (at552 i n 0)) (w (at552 i n 1)) := by
  have hr : (S5000x5000x1.rowMajor (at551 i n)).val = (S5000x5000.rowMajor (at55 i n)).val := by
    rw [Shape.rowMajor_val_two, Shape.rowMajor_val_three]
    show (i % 5000 * 5000 + n % 5000) * 1 + 0 = i % 5000 * 5000 + n % 5000
    omega
  refine congrArg₂ FloatOps.mulf ((shapeCast_apply _ _ _ (at551 i n) hr).trans (extractStridedSlice_apply _ _ _ _ (at552 i n 0) fun a => ?_))
    ((shapeCast_apply _ _ _ (at551 i n) hr).trans (extractStridedSlice_apply _ _ _ _ (at552 i n 1) fun a => ?_))
  · fin_cases a
    · show i % 5000 = 0 + i % 5000
      omega
    · show n % 5000 = 0 + n % 5000
      omega
    · rfl
  · fin_cases a
    · show i % 5000 = 0 + i % 5000
      omega
    · show n % 5000 = 0 + n % 5000
      omega
    · rfl

/-- A column spread over the pairs' second box reads at the first. -/
theorem rows_at (a : S5000.Idx → Elt F .f32) (i n : ℕ) :
    broadcastInDim S5000x5000 ![0, 1] bcast_S5000x1_S5000x5000_0_1 (broadcastInDim S5000x1 ![0] bcast_S5000_S5000x1_0 a) (at55 i n) = a (at50 i) := by
  refine (broadcastInDim_apply _ _ _ _ (at50x1 i) fun b => ?_).trans (broadcastInDim_apply _ _ _ _ (at50 i) fun b => ?_)
  · fin_cases b <;> rfl
  · fin_cases b
    rfl
/-- A column spread over the pairs' first box reads at the second. -/
theorem cols_at (a : S5000.Idx → Elt F .f32) (i n : ℕ) :
    broadcastInDim S5000x5000 ![0, 1] bcast_S1x5000_S5000x5000_0_1 (broadcastInDim S1x5000 ![1] bcast_S5000_S1x5000_1 a) (at55 i n) = a (at50 n) := by
  refine (broadcastInDim_apply _ _ _ _ (at15 n) fun b => ?_).trans (broadcastInDim_apply _ _ _ _ (at50 n) fun b => ?_)
  · fin_cases b <;> rfl
  · fin_cases b
    rfl

end Pair

/-- A ratio over the threshold is a box covering another. -/
theorem ratio_iff (q : S5000x4.Idx → Elt Ideal .f32) (i n : ℕ) :
    FloatOps.cmpf .ogt (ratios (extents q) (areas (F := Ideal) q) (at55 i n)) (Scalar.ofBits .f32 0x3E99999A#32 : Ideal .f32) = 1#1 ↔ Over q i n := by
  have e : ratios (extents q) (areas (F := Ideal) q) (at55 i n) =
      FloatOps.hostDivf (common (extents q) (at55 i n)) (FloatOps.maximumf (FloatOps.subf (FloatOps.addf
        (areas (F := Ideal) q (at50 i)) (areas (F := Ideal) q (at50 n))) (common (extents q) (at55 i n)))
        (Scalar.ofBits .f32 0x3089705F#32 : Ideal .f32)) := by
    rw [← rows_at (F := Ideal) (areas (F := Ideal) q) i n, ← cols_at (F := Ideal) (areas (F := Ideal) q) i n]
    rfl
  rw [e, common_at, extents_at q i n (by decide), extents_at q i n (by decide)]
  have hmax : ∀ x y : Ideal .f32, FloatOps.maximumf x y = FloatOps.maximumf y x := fun x y => max_comm (α := EReal) x y
  have hmin : ∀ x y : Ideal .f32, FloatOps.minimumf x y = FloatOps.minimumf y x := fun x y => min_comm (α := EReal) x y
  unfold Over ovl
  rw [hmax (Scalar.ofBits .f32 0x00000000#32), hmax (Scalar.ofBits .f32 0x00000000#32), hmin (q (at54 i (0 + 2))), hmax (q (at54 i 0)),
    hmin (q (at54 i (1 + 2))), hmax (q (at54 i 1))]
  rfl

/-! ## The marks after `k` turns -/

variable (m : (ℓ : Loc nD τ sig) → Buf (Elt Ideal) ℓ) (c : Dev nD)

/-- What a turn reads and does not write is as at the loop's entry. -/
theorem atK_fixed (k : ℕ) :
    atK m k c (Proc.devRef .tc main_v61_0) = iotaInDim S5000 32 0
    ∧ atK m k c (Proc.devRef .tc main_v61_2) = iotaInDim S5000 32 0
    ∧ atK m k c (Proc.devRef .tc main_v61_1) = ratios (extents (boxes (F := Ideal) (argB m c) (argS m c))) (areas (F := Ideal) (boxes (F := Ideal) (argB m c) (argS m c))) := by
  induction k with
  | zero =>
    refine ⟨?_, ?_, entry_v61_1 m c⟩
    · show entryContents preI m c _ = _
      rw [entry_eq, tail_v61_0]
    · show entryContents preI m c _ = _
      rw [entry_eq, tail_v61_2]
  | succ k ih =>
    have hc := cond_keeps (atK m k c)
    exact ⟨(trip_main_v61_0 _).trans ((hc main_v61_0 (by decide)).trans ih.1), (trip_main_v61_2 _).trans ((hc main_v61_2 (by decide)).trans ih.2.1),
      (trip_main_v61_1 _).trans ((hc main_v61_1 (by decide)).trans ih.2.2)⟩

/-- After `k` turns the loop's marks are the greedy scan's. -/
theorem marks_at : ∀ k ≤ 5000, ∀ j : S5000.Idx, (atK m k c (Proc.devRef .tc main_v61_4) : S5000.Idx → Elt Ideal .i1) j = 1#1 ↔
    scan (Over (boxes (argB m c) (argS m c))) (Good (scores (argS m c))) k (j 0).val := by
  intro k
  induction k with
  | zero =>
    intro _ j
    have h : (atK m 0 c (Proc.devRef .tc main_v61_4) : S5000.Idx → Elt Ideal .i1) = _ := entry_v61_4 m c
    rw [h]
    show _ ↔ Good _ _
    unfold Good
    rw [at50_val j]
    exact Iff.rfl
  | succ k ih =>
    intro hk j
    have ih := ih (by omega)
    have hc := cond_keeps (atK m k c)
    obtain ⟨f0, f2, f1⟩ := atK_fixed m c k
    refine (turn_at (after condOps (atK m k c)) (k := k) (by omega) ((hc main_v61_0 (by decide)).trans f0) ((hc main_v61_2 (by decide)).trans f2)
      ((hc main_v61_3 (by decide)).trans (atK_ctr m c k)) _ ((hc main_v61_1 (by decide)).trans f1)
      (atK m k c (Proc.devRef .tc main_v61_4)) (hc main_v61_4 (by decide)) (atK m (k + 1) c (Proc.devRef .tc main_v61_4)) rfl j).trans ?_
    rw [ratio_iff, ih j, ih (at50 k)]
    have e : (at50 k 0).val = k := Nat.mod_eq_of_lt (by omega)
    rw [e]
    exact Iff.rfl

/-! ## The reference's result -/

/-- A buffer that neither a turn nor the condition writes is after any number of turns as at the loop's entry. -/
theorem atK_keep (r : Ref sig .tc) (hb : ∀ ops ∈ bodyI (F := Ideal), ∀ op ∈ ops, Proc.devRef .tc r ∉ op.writes)
    (hd : ∀ op ∈ condOps (F := Ideal), Proc.devRef .tc r ∉ op.writes) (k : ℕ) :
    atK m k c (Proc.devRef .tc r) = entryContents preI m c (Proc.devRef .tc r) := by
  induction k with
  | zero => rfl
  | succ k ih =>
    refine (afterL_keep _ _ _ (List.forall_iff_forall_mem.mpr fun ops ho => List.forall_iff_forall_mem.mpr (hb ops ho))).trans ?_
    exact (after_of_forall_not_mem _ _ hd).trans ih

/-- The stretches after the loop: the marked scores, put back at their positions. -/
theorem post_v70 (Y : Valuation τ sig (Elt Ideal)) (s : S5000.Idx → Elt Ideal .f32) (h : Y (Proc.devRef .tc main_v1) = order (F := Ideal) s) :
    afterL postI Y (Proc.devRef .tc main_v70) = putBack (F := Ideal) s (select (Y (Proc.devRef .tc main_v61_4)) (Y (Proc.devRef .tc main_v15))
      (broadcastInDim S5000 ![] bcast_S_S5000 (constant (F := Ideal) S_ .f32 0x00000000#32))) := by
  unfold putBack
  rw [← h, afterL_eq_after_flatten]
  simp only [postI, List.flatten_cons, List.flatten_nil, hostOps0_5, hostOps0_6, hostOps0_7, List.cons_append, List.nil_append, List.append_nil]
  after_reads_simp
  rfl

/-- No turn of the loop, and not its condition, writes `r`. -/
def Spared (r : Ref sig .tc) : Prop :=
  ([bodyI (F := Ideal), [condOps]].flatten).Forall fun ops => ops.Forall fun op => Proc.devRef .tc r ∉ op.writes

/-- The order of the scores is spared, -/
theorem spared_v1 : Spared main_v1 := by
  simp only [Spared, List.flatten, bodyI, List.cons_append, List.nil_append, List.append_nil, List.Forall]
  repeat' apply And.intro
  all_goals exact fun hm => StableHlo.devRef_ne_of_ne (by decide) (Finset.mem_singleton.mp hm)
/-- and so are the sorted scores. -/
theorem spared_v15 : Spared main_v15 := by
  simp only [Spared, List.flatten, bodyI, List.cons_append, List.nil_append, List.append_nil, List.Forall]
  repeat' apply And.intro
  all_goals exact fun hm => StableHlo.devRef_ne_of_ne (by decide) (Finset.mem_singleton.mp hm)

/-- A spared buffer reads after the loop as it did before. -/
theorem loop_keep (r : Ref sig .tc) (h : Spared r) :
    after condOps (atK m 5000 c) (Proc.devRef .tc r) = entryContents preI m c (Proc.devRef .tc r) := by
  have hm := List.forall_iff_forall_mem.mp h
  have hd : ∀ op ∈ condOps (F := Ideal), Proc.devRef .tc r ∉ op.writes :=
    List.forall_iff_forall_mem.mp (hm condOps (List.mem_flatten.mpr ⟨[condOps], by simp, by simp⟩))
  exact (after_of_forall_not_mem _ _ hd).trans (atK_keep m c r
    (fun ops ho => List.forall_iff_forall_mem.mp (hm ops (List.mem_flatten.mpr ⟨bodyI, by simp, ho⟩))) hd 5000)

/-- The reference's result: the scores the greedy scan keeps, each at the position it came from. -/
theorem result_eq : result m c = putBack (F := Ideal) (argS m c) (keptScores (argB m c) (argS m c)) := by
  have h1 : after condOps (atK m 5000 c) (Proc.devRef .tc main_v1) = order (F := Ideal) (argS m c) := (loop_keep m c _ spared_v1).trans (entry_v1 m c)
  have h15 : after condOps (atK m 5000 c) (Proc.devRef .tc main_v15) = scores (F := Ideal) (argS m c) := (loop_keep m c _ spared_v15).trans (entry_v15 m c)
  have h4 : after condOps (atK m 5000 c) (Proc.devRef .tc main_v61_4) = atK m 5000 c (Proc.devRef .tc main_v61_4) :=
    cond_keeps (atK m 5000 c) main_v61_4 (by decide)
  refine (post_v70 (after condOps (atK m 5000 c)) (argS m c) h1).trans (congrArg (putBack (F := Ideal) (argS m c)) (funext fun i => ?_))
  rw [h4, h15]
  have hm := marks_at m c 5000 le_rfl i
  generalize (atK m 5000 c (Proc.devRef .tc main_v61_4) : S5000.Idx → Elt Ideal .i1) = K at hm
  show (if K i = 1#1 then scores (F := Ideal) (argS m c) i else (Scalar.ofBits .f32 0x00000000#32 : Ideal .f32)) = _
  unfold keptScores
  by_cases h : K i = 1#1
  · rw [if_pos h, if_pos (hm.mp h)]
  · rw [if_neg h, if_neg fun h' => h (hm.mpr h')]
    exact Cert.KernelIdeal.Sweep.zro_eq

end Cert.ReferenceIdeal.Scan
-- ==== Proof.lean ====
/- The claims about the greedy suppression kernel, put together from the modules under Proof/. -/
module

public import proofs.«01_k».proof.Defs
public import proofs.«01_k».proof.Proof.KernelLaunch
public import proofs.«01_k».proof.Proof.KernelIdealLaunch
public import proofs.«01_k».proof.Proof.KeptScores
public import proofs.«01_k».proof.Proof.ReferenceKept

@[expose] public section

noncomputable section

namespace Cert.Proof

open Idealize.ShloMosaic Idealize.SL.Sem

/-- The kernel ends, leaves its arguments alone and every counter at zero. -/
theorem frame_kernel : Cert.quiescent_Kernel (hKernel := Cert.Kernel.Gen.facts) := fun m g _ =>
  (θ_run _ _ _).mono (fun _ h => ⟨fun c => (h.1 c).2, h.2⟩) (Cert.Kernel.Sweep.run_main m g)

/-- So does the ideal kernel, -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Sweep.run_main m g)

/-- and so does the ideal reference. -/
theorem frame_reference : Cert.quiescent_ReferenceIdeal (hReferenceIdeal := Cert.ReferenceIdeal.Gen.facts) := fun m g _ =>
  (θ_run _ _ _).mono (fun _ h => ⟨fun c => (h.1 c).2, h.2⟩) (Cert.ReferenceIdeal.Scan.run_main m g)

/-- Launched on the same boxes and scores, the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hb : Cert.ReferenceIdeal.Scan.argB m' c = Cert.KernelIdeal.Sweep.argB m c)
    (hs : Cert.ReferenceIdeal.Scan.argS m' c = Cert.KernelIdeal.Sweep.argS m c) :
    Cert.ReferenceIdeal.Scan.result m' c = Cert.KernelIdeal.Sweep.result m c := by
  refine (Cert.ReferenceIdeal.Scan.result_eq m' c).trans (Eq.trans ?_ (Cert.KernelIdeal.Sweep.result_eq m c).symm)
  rw [hb, hs]

/-- The ideal kernel and the ideal reference, launched on the same boxes and scores, end with the same result. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Sweep.result m c,
    (θ_run _ _ _).mono (fun _ h => h.1) (Cert.KernelIdeal.Sweep.run_main m g),
    (θ_run _ _ _).mono (fun _ h c => ⟨(h.1 c).1.trans (results_agree m m' c (hag c).1 (hag c).2), (h.1 c).2⟩)
      (Cert.ReferenceIdeal.Scan.run_main m' g')⟩

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
